-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S2x128x4096 : Shape := ⟨3, ![2, 128, 4096]⟩
abbrev S2 : Shape := ⟨1, ![2]⟩
abbrev S_ : Shape := ⟨0, ![]⟩
abbrev S1x128x4096 : Shape := ⟨3, ![1, 128, 4096]⟩
abbrev S1 : Shape := ⟨1, ![1]⟩
abbrev S128x64 : Shape := ⟨2, ![128, 64]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S2x128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_18 : BitVec 32 := 1#32
  let v18 : BitVec 32 := Scalar.muli v7 c1_i32_18
  let v19 : BitVec 32 := Scalar.addi c0_i32_19 v18
  v19.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v33 : BitVec 32 := Scalar.muli v2 c128_i32
  let v34 : Index := Scalar.indexCast v33
  let c0_28 : Index := 0#32
  ![v34.toNat, 0]
def k0_off2 (d0 : Dev nD) (c0_i32_48 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v50 : BitVec 32 := Scalar.subi v2 c0_i32_48
  let c1_i32_49 : BitVec 32 := 1#32
  let v51 : BitVec 32 := Scalar.subi v50 c1_i32_49
  let c32_i32_50 : BitVec 32 := 32#32
  let v52 : BitVec 32 := Scalar.addi v51 c32_i32_50
  let c32_i32_51 : BitVec 32 := 32#32
  let v53 : BitVec 32 := Scalar.remsi v52 c32_i32_51
  let c128_i32_57 : BitVec 32 := 128#32
  let v59 : BitVec 32 := Scalar.muli v53 c128_i32_57
  let v60 : Index := Scalar.indexCast v59
  let c0_58 : Index := 0#32
  ![v60.toNat, 0]
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_60 : BitVec 32 := 1#32
  let v62 : BitVec 32 := Scalar.muli v5 c1_i32_60
  let v63 : BitVec 32 := Scalar.addi c0_i32_61 v62
  v63.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_68 : BitVec 32 := 1#32
  let v64 : BitVec 32 := Scalar.muli v7 c1_i32_68
  let v65 : BitVec 32 := Scalar.addi c0_i32_69 v64
  v65.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_106 : BitVec 32 := 1#32
  let v100 : BitVec 32 := Scalar.muli v5 c1_i32_106
  let v101 : BitVec 32 := Scalar.addi c0_i32_107 v100
  v101.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_114 : BitVec 32 := 1#32
  let v102 : BitVec 32 := Scalar.muli v7 c1_i32_114
  let v103 : BitVec 32 := Scalar.addi c0_i32_115 v102
  v103.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_152 : BitVec 32 := 1#32
  let v138 : BitVec 32 := Scalar.muli v5 c1_i32_152
  let v139 : BitVec 32 := Scalar.addi c0_i32_153 v138
  v139.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_160 : BitVec 32 := 1#32
  let v140 : BitVec 32 := Scalar.muli v7 c1_i32_160
  let v141 : BitVec 32 := Scalar.addi c0_i32_161 v140
  v141.toNat
def k0_dev10 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_197 : BitVec 32 := 1#32
  let v176 : BitVec 32 := Scalar.muli v5 c1_i32_197
  let v177 : BitVec 32 := Scalar.addi c0_i32_198 v176
  v177.toNat
def k0_dev11 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_205 : BitVec 32 := 1#32
  let v178 : BitVec 32 := Scalar.muli v7 c1_i32_205
  let v179 : BitVec 32 := Scalar.addi c0_i32_206 v178
  v179.toNat
def k0_dev12 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_242 : BitVec 32 := 1#32
  let v214 : BitVec 32 := Scalar.muli v5 c1_i32_242
  let v215 : BitVec 32 := Scalar.addi c0_i32_243 v214
  v215.toNat
def k0_dev13 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_250 : BitVec 32 := 1#32
  let v216 : BitVec 32 := Scalar.muli v7 c1_i32_250
  let v217 : BitVec 32 := Scalar.addi c0_i32_251 v216
  v217.toNat
def k0_dev14 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_287 : BitVec 32 := 1#32
  let v252 : BitVec 32 := Scalar.muli v5 c1_i32_287
  let v253 : BitVec 32 := Scalar.addi c0_i32_288 v252
  v253.toNat
def k0_dev15 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_295 : BitVec 32 := 1#32
  let v254 : BitVec 32 := Scalar.muli v7 c1_i32_295
  let v255 : BitVec 32 := Scalar.addi c0_i32_296 v254
  v255.toNat
def k0_dev16 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_332 : BitVec 32 := 1#32
  let v290 : BitVec 32 := Scalar.muli v5 c1_i32_332
  let v291 : BitVec 32 := Scalar.addi c0_i32_333 v290
  v291.toNat
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_340 : BitVec 32 := 1#32
  let v292 : BitVec 32 := Scalar.muli v7 c1_i32_340
  let v293 : BitVec 32 := Scalar.addi c0_i32_341 v292
  v293.toNat
def k0_dev18 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_377 : BitVec 32 := 1#32
  let v328 : BitVec 32 := Scalar.muli v5 c1_i32_377
  let v329 : BitVec 32 := Scalar.addi c0_i32_378 v328
  v329.toNat
def k0_dev19 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_385 : BitVec 32 := 1#32
  let v330 : BitVec 32 := Scalar.muli v7 c1_i32_385
  let v331 : BitVec 32 := Scalar.addi c0_i32_386 v330
  v331.toNat
def k0_dev20 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_422 : BitVec 32 := 1#32
  let v366 : BitVec 32 := Scalar.muli v5 c1_i32_422
  let v367 : BitVec 32 := Scalar.addi c0_i32_423 v366
  v367.toNat
def k0_dev21 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_430 : BitVec 32 := 1#32
  let v368 : BitVec 32 := Scalar.muli v7 c1_i32_430
  let v369 : BitVec 32 := Scalar.addi c0_i32_431 v368
  v369.toNat
def k0_dev22 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_467 : BitVec 32 := 1#32
  let v404 : BitVec 32 := Scalar.muli v5 c1_i32_467
  let v405 : BitVec 32 := Scalar.addi c0_i32_468 v404
  v405.toNat
def k0_dev23 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_475 : BitVec 32 := 1#32
  let v406 : BitVec 32 := Scalar.muli v7 c1_i32_475
  let v407 : BitVec 32 := Scalar.addi c0_i32_476 v406
  v407.toNat
def k0_dev24 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_512 : BitVec 32 := 1#32
  let v442 : BitVec 32 := Scalar.muli v5 c1_i32_512
  let v443 : BitVec 32 := Scalar.addi c0_i32_513 v442
  v443.toNat
def k0_dev25 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_520 : BitVec 32 := 1#32
  let v444 : BitVec 32 := Scalar.muli v7 c1_i32_520
  let v445 : BitVec 32 := Scalar.addi c0_i32_521 v444
  v445.toNat
def k0_dev26 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_557 : BitVec 32 := 1#32
  let v480 : BitVec 32 := Scalar.muli v5 c1_i32_557
  let v481 : BitVec 32 := Scalar.addi c0_i32_558 v480
  v481.toNat
def k0_dev27 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_565 : BitVec 32 := 1#32
  let v482 : BitVec 32 := Scalar.muli v7 c1_i32_565
  let v483 : BitVec 32 := Scalar.addi c0_i32_566 v482
  v483.toNat
def k0_dev28 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_602 : BitVec 32 := 1#32
  let v518 : BitVec 32 := Scalar.muli v5 c1_i32_602
  let v519 : BitVec 32 := Scalar.addi c0_i32_603 v518
  v519.toNat
def k0_dev29 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_610 : BitVec 32 := 1#32
  let v520 : BitVec 32 := Scalar.muli v7 c1_i32_610
  let v521 : BitVec 32 := Scalar.addi c0_i32_611 v520
  v521.toNat
def k0_dev30 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_647 : BitVec 32 := 1#32
  let v556 : BitVec 32 := Scalar.muli v5 c1_i32_647
  let v557 : BitVec 32 := Scalar.addi c0_i32_648 v556
  v557.toNat
def k0_dev31 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_655 : BitVec 32 := 1#32
  let v558 : BitVec 32 := Scalar.muli v7 c1_i32_655
  let v559 : BitVec 32 := Scalar.addi c0_i32_656 v558
  v559.toNat
def k0_dev32 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_692 : BitVec 32 := 1#32
  let v594 : BitVec 32 := Scalar.muli v5 c1_i32_692
  let v595 : BitVec 32 := Scalar.addi c0_i32_693 v594
  v595.toNat
def k0_dev33 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_700 : BitVec 32 := 1#32
  let v596 : BitVec 32 := Scalar.muli v7 c1_i32_700
  let v597 : BitVec 32 := Scalar.addi c0_i32_701 v596
  v597.toNat
def k0_dev34 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_737 : BitVec 32 := 1#32
  let v632 : BitVec 32 := Scalar.muli v5 c1_i32_737
  let v633 : BitVec 32 := Scalar.addi c0_i32_738 v632
  v633.toNat
def k0_dev35 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_745 : BitVec 32 := 1#32
  let v634 : BitVec 32 := Scalar.muli v7 c1_i32_745
  let v635 : BitVec 32 := Scalar.addi c0_i32_746 v634
  v635.toNat
def k0_dev36 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_782 : BitVec 32 := 1#32
  let v670 : BitVec 32 := Scalar.muli v5 c1_i32_782
  let v671 : BitVec 32 := Scalar.addi c0_i32_783 v670
  v671.toNat
def k0_dev37 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_790 : BitVec 32 := 1#32
  let v672 : BitVec 32 := Scalar.muli v7 c1_i32_790
  let v673 : BitVec 32 := Scalar.addi c0_i32_791 v672
  v673.toNat
def k0_dev38 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_827 : BitVec 32 := 1#32
  let v708 : BitVec 32 := Scalar.muli v5 c1_i32_827
  let v709 : BitVec 32 := Scalar.addi c0_i32_828 v708
  v709.toNat
def k0_dev39 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_835 : BitVec 32 := 1#32
  let v710 : BitVec 32 := Scalar.muli v7 c1_i32_835
  let v711 : BitVec 32 := Scalar.addi c0_i32_836 v710
  v711.toNat
def k0_dev40 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_872 : BitVec 32 := 1#32
  let v746 : BitVec 32 := Scalar.muli v5 c1_i32_872
  let v747 : BitVec 32 := Scalar.addi c0_i32_873 v746
  v747.toNat
def k0_dev41 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_880 : BitVec 32 := 1#32
  let v748 : BitVec 32 := Scalar.muli v7 c1_i32_880
  let v749 : BitVec 32 := Scalar.addi c0_i32_881 v748
  v749.toNat
def k0_dev42 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_917 : BitVec 32 := 1#32
  let v784 : BitVec 32 := Scalar.muli v5 c1_i32_917
  let v785 : BitVec 32 := Scalar.addi c0_i32_918 v784
  v785.toNat
def k0_dev43 (d0 : Dev nD) : Nat :=
  let c0_i32_926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_925 : BitVec 32 := 1#32
  let v786 : BitVec 32 := Scalar.muli v7 c1_i32_925
  let v787 : BitVec 32 := Scalar.addi c0_i32_926 v786
  v787.toNat
def k0_dev44 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_962 : BitVec 32 := 1#32
  let v822 : BitVec 32 := Scalar.muli v5 c1_i32_962
  let v823 : BitVec 32 := Scalar.addi c0_i32_963 v822
  v823.toNat
def k0_dev45 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_970 : BitVec 32 := 1#32
  let v824 : BitVec 32 := Scalar.muli v7 c1_i32_970
  let v825 : BitVec 32 := Scalar.addi c0_i32_971 v824
  v825.toNat
def k0_dev46 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1007 : BitVec 32 := 1#32
  let v860 : BitVec 32 := Scalar.muli v5 c1_i32_1007
  let v861 : BitVec 32 := Scalar.addi c0_i32_1008 v860
  v861.toNat
def k0_dev47 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1015 : BitVec 32 := 1#32
  let v862 : BitVec 32 := Scalar.muli v7 c1_i32_1015
  let v863 : BitVec 32 := Scalar.addi c0_i32_1016 v862
  v863.toNat
def k0_dev48 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1052 : BitVec 32 := 1#32
  let v898 : BitVec 32 := Scalar.muli v5 c1_i32_1052
  let v899 : BitVec 32 := Scalar.addi c0_i32_1053 v898
  v899.toNat
def k0_dev49 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1060 : BitVec 32 := 1#32
  let v900 : BitVec 32 := Scalar.muli v7 c1_i32_1060
  let v901 : BitVec 32 := Scalar.addi c0_i32_1061 v900
  v901.toNat
def k0_dev50 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1097 : BitVec 32 := 1#32
  let v936 : BitVec 32 := Scalar.muli v5 c1_i32_1097
  let v937 : BitVec 32 := Scalar.addi c0_i32_1098 v936
  v937.toNat
def k0_dev51 (d0 : Dev nD) : Nat :=
  let c0_i32_1106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1105 : BitVec 32 := 1#32
  let v938 : BitVec 32 := Scalar.muli v7 c1_i32_1105
  let v939 : BitVec 32 := Scalar.addi c0_i32_1106 v938
  v939.toNat
def k0_dev52 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1142 : BitVec 32 := 1#32
  let v974 : BitVec 32 := Scalar.muli v5 c1_i32_1142
  let v975 : BitVec 32 := Scalar.addi c0_i32_1143 v974
  v975.toNat
def k0_dev53 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1150 : BitVec 32 := 1#32
  let v976 : BitVec 32 := Scalar.muli v7 c1_i32_1150
  let v977 : BitVec 32 := Scalar.addi c0_i32_1151 v976
  v977.toNat
def k0_dev54 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1187 : BitVec 32 := 1#32
  let v1012 : BitVec 32 := Scalar.muli v5 c1_i32_1187
  let v1013 : BitVec 32 := Scalar.addi c0_i32_1188 v1012
  v1013.toNat
def k0_dev55 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1195 : BitVec 32 := 1#32
  let v1014 : BitVec 32 := Scalar.muli v7 c1_i32_1195
  let v1015 : BitVec 32 := Scalar.addi c0_i32_1196 v1014
  v1015.toNat
def k0_dev56 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1232 : BitVec 32 := 1#32
  let v1050 : BitVec 32 := Scalar.muli v5 c1_i32_1232
  let v1051 : BitVec 32 := Scalar.addi c0_i32_1233 v1050
  v1051.toNat
def k0_dev57 (d0 : Dev nD) : Nat :=
  let c0_i32_1241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1240 : BitVec 32 := 1#32
  let v1052 : BitVec 32 := Scalar.muli v7 c1_i32_1240
  let v1053 : BitVec 32 := Scalar.addi c0_i32_1241 v1052
  v1053.toNat
def k0_dev58 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1277 : BitVec 32 := 1#32
  let v1088 : BitVec 32 := Scalar.muli v5 c1_i32_1277
  let v1089 : BitVec 32 := Scalar.addi c0_i32_1278 v1088
  v1089.toNat
def k0_dev59 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1285 : BitVec 32 := 1#32
  let v1090 : BitVec 32 := Scalar.muli v7 c1_i32_1285
  let v1091 : BitVec 32 := Scalar.addi c0_i32_1286 v1090
  v1091.toNat
def k0_dev60 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1322 : BitVec 32 := 1#32
  let v1126 : BitVec 32 := Scalar.muli v5 c1_i32_1322
  let v1127 : BitVec 32 := Scalar.addi c0_i32_1323 v1126
  v1127.toNat
def k0_dev61 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1330 : BitVec 32 := 1#32
  let v1128 : BitVec 32 := Scalar.muli v7 c1_i32_1330
  let v1129 : BitVec 32 := Scalar.addi c0_i32_1331 v1128
  v1129.toNat
def k0_dev62 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1367 : BitVec 32 := 1#32
  let v1164 : BitVec 32 := Scalar.muli v5 c1_i32_1367
  let v1165 : BitVec 32 := Scalar.addi c0_i32_1368 v1164
  v1165.toNat
def k0_dev63 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1375 : BitVec 32 := 1#32
  let v1166 : BitVec 32 := Scalar.muli v7 c1_i32_1375
  let v1167 : BitVec 32 := Scalar.addi c0_i32_1376 v1166
  v1167.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
/-
# The ring, its memory and its semaphores

Thirty-two devices stand in a ring. `nxt c` is the device to the right of `c`, `prv c` the one to its left, and `back h c` the
one `h` places to the left. At hop `h` a device sends the block of `x` that it holds in slot `sl h` of its communication buffer
to slot `sl (h + 1)` of its right neighbour; the block is that of device `back h c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.SiteBlocks
public import Idealize.ShloMosaic.Lib.Tactic

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the ring's own cells; a duty is named by a truth value. -/
abbrev UB : Type := URounds (GSem nD τ sig) Bool
/-- The pipeline's ghost state and the ring's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Devices -/

set_option backward.proofsInPublic true in
/-- The device to the right. -/
def nxt (c : Dev nD) : Dev nD := ⟨(c.val + 1) % 32, Nat.mod_lt _ (by decide)⟩
set_option backward.proofsInPublic true in
/-- The device to the left. -/
def prv (c : Dev nD) : Dev nD := ⟨(c.val + 31) % 32, Nat.mod_lt _ (by decide)⟩
set_option backward.proofsInPublic true in
/-- The device `h` places to the left. -/
def back (h : ℕ) (c : Dev nD) : Dev nD := ⟨(c.val + 31 * h) % 32, Nat.mod_lt _ (by decide)⟩

theorem lt32 (c : Dev nD) : c.val < 32 := c.isLt

theorem prv_nxt (c : Dev nD) : prv (nxt c) = c := Fin.ext (by have := lt32 c; simp only [prv, nxt]; omega)
theorem nxt_prv (c : Dev nD) : nxt (prv c) = c := Fin.ext (by have := lt32 c; simp only [prv, nxt]; omega)
theorem back_zero (c : Dev nD) : back 0 c = c := Fin.ext (by have := lt32 c; simp only [back]; omega)
theorem back_nxt (h : ℕ) (c : Dev nD) : back (h + 1) (nxt c) = back h c :=
  Fin.ext (by have := lt32 c; simp only [back, nxt]; omega)
theorem back_ne {h j : ℕ} (c : Dev nD) (hj : j < h) (hh : h < 32) : back j c ≠ back h c := by
  intro e
  have e' : (c.val + 31 * j) % 32 = (c.val + 31 * h) % 32 := congrArg Fin.val e
  have := lt32 c; omega
theorem exists_back (c d : Dev nD) : ∃ j < 32, back j c = d :=
  ⟨(c.val + 32 - d.val) % 32, Nat.mod_lt _ (by decide), Fin.ext (by have := lt32 c; have := lt32 d; simp only [back]; omega)⟩

/-- The ring as a permutation. -/
def ring : Dev nD ≃ Dev nD := ⟨nxt, prv, prv_nxt, nxt_prv⟩

/-! ## Slots, memory views and semaphores -/

set_option backward.proofsInPublic true in
/-- The slot that a hop sends from; the next hop's is the slot it lands in. -/
def sl (h : ℕ) : Fin 2 := ⟨h % 2, Nat.mod_lt _ (by decide)⟩

theorem sl_add_two (h : ℕ) : sl (h + 2) = sl h := Fin.ext (by simp only [sl]; omega)
theorem sl_val (h : ℕ) : (sl h).val = h % 2 := rfl

theorem slot_inb (s : Fin 2) : ∀ a, (![s.val, 0, 0] : Fin 3 → ℕ) a + S1x128x4096.size a ≤ S2x128x4096.size a := by
  revert s; decide +kernel
theorem sem_inb (s : Fin 2) : ∀ a, (![s.val] : Fin 1 → ℕ) a + S1.size a ≤ S2.size a := by revert s; decide

abbrev xM : Memref sig .tc .vmem S128x4096 .f32 := Memref.whole cc0_stg0_0
abbrev wM : Memref sig .tc .vmem S4096x64 .f32 := Memref.whole cc0_stg1_0
abbrev oM : Memref sig .tc .vmem S4096x64 .f32 := Memref.whole cc0_stg2_0
abbrev cM : Memref sig .tc .vmem S2x128x4096 .f32 := Memref.whole cc0_scratch0

/-- The rectangle of one slot in the communication buffer. -/
abbrev slotR (s : Fin 2) : Rect S2x128x4096 := Rect.unit (s := S2x128x4096) ![s.val, 0, 0] S1x128x4096.size (slot_inb s)
/-- One slot of the communication buffer, as a block of `x`. -/
abbrev slotM (s : Fin 2) : Memref sig .tc .vmem S128x4096 .f32 :=
  (cM.slice (slotR s) (fun _ => rfl)).squeeze S128x4096 squeezes_S1x128x4096_S128x4096

abbrev sendS (s : Fin 2) : DmaSems sig S_ := (cc0_scratch1.slice (Rect.unit (s := S2) ![s.val] S1.size (sem_inb s))).squeeze S_ squeezes_S1_S_
abbrev recvS (s : Fin 2) : DmaSems sig S_ := (cc0_scratch2.slice (Rect.unit (s := S2) ![s.val] S1.size (sem_inb s))).squeeze S_ squeezes_S1_S_
abbrev credS : Sems sig S_ := cc0_scratch3
abbrev barS : Sem sig := (SemArray.scalar (sig.barrier 0 rfl) : Sems sig S_).sem

abbrev barL : SemLoc sig := .reg barS
abbrev credL : SemLoc sig := .reg credS.sem
abbrev sendL (s : Fin 2) : SemLoc sig := .dma (sendS s).sem
abbrev recvL (s : Fin 2) : SemLoc sig := .dma (recvS s).sem

abbrev barCell (c : Dev nD) : GSem nD τ sig := ((c : Thread nD τ), barL)
abbrev credCell (c : Dev nD) : GSem nD τ sig := ((c : Thread nD τ), credL)
abbrev sendCell (c : Dev nD) (s : Fin 2) : GSem nD τ sig := ((c : Thread nD τ), sendL s)
abbrev recvCell (c : Dev nD) (s : Fin 2) : GSem nD τ sig := ((c : Thread nD τ), recvL s)

/-- A device's six cells: barrier, credit, the two send cells, the two receive cells. -/
abbrev csem : Fin 6 → SemLoc sig := fun | 0 => barL | 1 => credL | 2 => sendL 0 | 3 => sendL 1 | 4 => recvL 0 | 5 => recvL 1
/-- The five of them that belong to the kernel's own scope. -/
abbrev osem : Fin 5 → SemLoc sig := fun | 0 => credL | 1 => sendL 0 | 2 => sendL 1 | 3 => recvL 0 | 4 => recvL 1
abbrev kcell (ck : Dev nD × Fin 6) : GSem nD τ sig := ((ck.1 : Thread nD τ), csem ck.2)

/-- Which of the six a semaphore is; `6` if none. -/
def kind (sm : SemLoc sig) : ℕ :=
  if sm = barL then 0 else if sm = credL then 1 else if sm = sendL 0 then 2 else if sm = sendL 1 then 3
  else if sm = recvL 0 then 4 else if sm = recvL 1 then 5 else 6

theorem kind_bar : kind barL = 0 := by decide
theorem kind_cred : kind credL = 1 := by decide
theorem kind_send (s : Fin 2) : kind (sendL s) = 2 + s.val := by revert s; decide
theorem kind_recv (s : Fin 2) : kind (recvL s) = 4 + s.val := by revert s; decide
theorem kind_csem (k : Fin 6) : kind (csem k) = k.val := by revert k; decide

abbrev N : ℕ := (slotM 0).view.dmaCredit
theorem N_pos : 0 < N := View.dmaCredit_pos _ (by decide)
theorem N_slot (s : Fin 2) : (slotM s).view.dmaCredit = N := rfl

/-! ## Contents -/

/-- A block of `x`. -/
abbrev XBlk (F : FTy → Type) : Type := S128x4096.Idx → Elt F .f32

/-- Device `c`'s block of `x`, as staged. -/
def xstg (c : Dev nD) : XBlk F := (win0_0.blk (0 : Fin 1)).view.read (Elt F) ((s₀ m ρ).mem ((c : Thread nD τ).loc main_arg0))
/-- Device `c`'s block of `w`, as staged. -/
def wstg (c : Dev nD) : (cc0_stg1_0 : Ref sig .tc).ty.Contents (Elt F) :=
  (win0_1.blk (0 : Fin 1)).view.read (Elt F) ((s₀ m ρ).mem ((c : Thread nD τ).loc main_arg1))

/-- A slot owned, holding block `X`. -/
def slot (c : Dev nD) (s : Fin 2) (X : XBlk F) : sProp 𝕄 := owns (c : Thread nD τ) (slotM s) fullShare X
/-- A slot owned, whatever it holds. -/
def slotAny (c : Dev nD) (s : Fin 2) : sProp 𝕄 := iprop(∃ X, slot (F := F) c s X)

omit [FloatOps F] in
instance slot_storable (c : Dev nD) (s : Fin 2) (X : XBlk F) : BI.Storable (upEmb : UEmb _ 𝕄) (slot (F := F) c s X) := by
  unfold slot; infer_instance
omit [FloatOps F] in
instance slotAny_storable (c : Dev nD) (s : Fin 2) : BI.Storable (upEmb : UEmb _ 𝕄) (slotAny (F := F) c s) := by
  unfold slotAny; infer_instance

/-! ## The schedule -/

/-- The duties of round `r` of a device's cell of kind `k`. -/
def dut (k r : ℕ) : Finset Bool :=
  match k with
  | 0 => if r = 0 then Finset.univ else ∅
  | 1 => if r < 30 then {false} else ∅
  | 2 => if 2 * r < 31 then {false} else ∅
  | 3 => if 2 * r + 1 < 31 then {false} else ∅
  | 4 => if 2 * r + 1 < 31 then {false} else ∅
  | 5 => if 2 * r < 31 then {false} else ∅
  | _ => ∅

/-- What the right neighbour hands over with its barrier signal: its slot 1. -/
def barPay (c : Dev nD) : sProp 𝕄 := slotAny (F := F) (nxt c) 1
/-- What it hands over with its credit of hop `r`: the slot it has sent from, and how far its receive cell there has come. -/
def credPay (c : Dev nD) (r : ℕ) : sProp 𝕄 :=
  iprop(slotAny (F := F) (nxt c) (sl r) ∗ reached ER (recvCell (nxt c) (sl r)) ((r + 1) / 2))
/-- What comes back when hop `h`'s send is complete: the slot it left from. -/
def sendPay (c : Dev nD) (h : ℕ) : sProp 𝕄 := slot (F := F) c (sl h) (xstg m ρ (back h c))
/-- What hop `h`'s block brings: the slot with the block, and how far the sender's credit cell has come. -/
def recvPay (c : Dev nD) (h : ℕ) : sProp 𝕄 :=
  iprop(slot (F := F) c (sl (h + 1)) (xstg m ρ (back (h + 1) c)) ∗ reached ER (credCell (prv c)) h)

/-- The payload of round `r` of device `c`'s cell of kind `k`. -/
def pays (k : ℕ) (c : Dev nD) (r : ℕ) (d : Bool) : sProp 𝕄 :=
  match k with
  | 0 => if d then barPay (F := F) c else iprop(emp)
  | 1 => credPay (F := F) c r
  | 2 => sendPay m ρ c (2 * r)
  | 3 => sendPay m ρ c (2 * r + 1)
  | 4 => recvPay m ρ c (2 * r + 1)
  | 5 => recvPay m ρ c (2 * r)
  | _ => iprop(emp)

instance pays_storable (k : ℕ) (c : Dev nD) (r : ℕ) (d : Bool) : BI.Storable (upEmb : UEmb _ 𝕄) (pays (F := F) m ρ k c r d) := by
  unfold pays barPay credPay sendPay recvPay
  (repeat' split) <;> infer_instance

/-- The ring's schedule. -/
def Rd : Rounds.Schedule (GSem nD τ sig) Bool 𝕄 where
  duties g r := if g.1.2 = .tc then dut (kind g.2) r else ∅
  unitless _ := False
  amount g _ _ := if kind g.2 ≤ 1 then 1 else N
  payload g r d := pays m ρ (kind g.2) g.1.1 r d
  amount_pos g _ _ _ := by
    by_cases h : kind g.2 ≤ 1
    · rw [if_pos h]; exact Nat.one_pos
    · rw [if_neg h]; exact N_pos

instance Rd_storable (g : GSem nD τ sig) (r : ℕ) (d : Bool) : BI.Storable (upEmb : UEmb _ 𝕄) ((Rd (F := F) m ρ).payload g r d) := by
  show BI.Storable upEmb (pays m ρ (kind g.2) g.1.1 r d); infer_instance

section Sched
variable (c : Dev nD) (d : Bool)

omit [FloatOps F] in
theorem duties_at (sm : SemLoc sig) (r : ℕ) : (Rd (F := F) m ρ).duties ((c : Thread nD τ), sm) r = dut (kind sm) r := by
  dsimp only [Rd]; exact if_pos rfl
omit [FloatOps F] in
theorem payload_at (sm : SemLoc sig) (r : ℕ) : (Rd (F := F) m ρ).payload ((c : Thread nD τ), sm) r d = pays m ρ (kind sm) c r d := rfl

omit [FloatOps F] in
theorem duties_bar : (Rd (F := F) m ρ).duties (barCell c) 0 = Finset.univ := by rw [duties_at, kind_bar]; rfl
omit [FloatOps F] in
theorem duties_cred {r : ℕ} (h : r < 30) : (Rd (F := F) m ρ).duties (credCell c) r = {false} := by
  rw [duties_at, kind_cred]; exact if_pos h
theorem dut_send {h : ℕ} (hh : h < 31) : dut (2 + (sl h).val) (h / 2) = {false} := by
  rw [sl_val]
  rcases Nat.mod_two_eq_zero_or_one h with e | e <;> rw [e]
  · exact if_pos (by omega)
  · exact if_pos (by omega)
theorem dut_recv {h : ℕ} (hh : h < 31) : dut (4 + (sl (h + 1)).val) (h / 2) = {false} := by
  rw [sl_val]
  rcases Nat.mod_two_eq_zero_or_one (h + 1) with e | e <;> rw [e]
  · exact if_pos (by omega)
  · exact if_pos (by omega)
omit [FloatOps F] in
theorem duties_send {h : ℕ} (hh : h < 31) : (Rd (F := F) m ρ).duties (sendCell c (sl h)) (h / 2) = {false} := by
  rw [duties_at, kind_send, dut_send hh]
omit [FloatOps F] in
theorem duties_recv {h : ℕ} (hh : h < 31) : (Rd (F := F) m ρ).duties (recvCell c (sl (h + 1))) (h / 2) = {false} := by
  rw [duties_at, kind_recv, dut_recv hh]

omit [FloatOps F] in
theorem amount_bar (r : ℕ) : (Rd (F := F) m ρ).amount (barCell c) r d = 1 := by dsimp only [Rd]; exact if_pos (by decide)
omit [FloatOps F] in
theorem amount_cred (r : ℕ) : (Rd (F := F) m ρ).amount (credCell c) r d = 1 := by dsimp only [Rd]; exact if_pos (by decide)
omit [FloatOps F] in
theorem amount_send (s : Fin 2) (r : ℕ) : (Rd (F := F) m ρ).amount (sendCell c s) r d = N := by
  dsimp only [Rd]; exact if_neg (by rw [kind_send]; omega)
omit [FloatOps F] in
theorem amount_recv (s : Fin 2) (r : ℕ) : (Rd (F := F) m ρ).amount (recvCell c s) r d = N := by
  dsimp only [Rd]; exact if_neg (by rw [kind_recv]; omega)

omit [FloatOps F] in
theorem expect_bar : (Rd (F := F) m ρ).expect (barCell c) 0 = 2 := by
  unfold Schedule.expect Schedule.amountOf
  rw [duties_bar, Finset.sum_congr rfl fun d _ => amount_bar m ρ c d 0, Finset.sum_const, Finset.card_univ, Fintype.card_bool, smul_eq_mul]
omit [FloatOps F] in
theorem expect_cred {r : ℕ} (h : r < 30) : (Rd (F := F) m ρ).expect (credCell c) r = 1 := by
  unfold Schedule.expect Schedule.amountOf; rw [duties_cred m ρ c h, Finset.sum_singleton, amount_cred]
omit [FloatOps F] in
theorem expect_send {h : ℕ} (hh : h < 31) : (Rd (F := F) m ρ).expect (sendCell c (sl h)) (h / 2) = N := by
  unfold Schedule.expect Schedule.amountOf; rw [duties_send m ρ c hh, Finset.sum_singleton, amount_send]
omit [FloatOps F] in
theorem expect_recv {h : ℕ} (hh : h < 31) : (Rd (F := F) m ρ).expect (recvCell c (sl (h + 1))) (h / 2) = N := by
  unfold Schedule.expect Schedule.amountOf; rw [duties_recv m ρ c hh, Finset.sum_singleton, amount_recv]

omit [FloatOps F] in
theorem payload_bar_true : (Rd (F := F) m ρ).payload (barCell c) 0 true = barPay c := by rw [payload_at, kind_bar]; rfl
omit [FloatOps F] in
theorem payload_bar_false : (Rd (F := F) m ρ).payload (barCell c) 0 false = iprop(emp) := by rw [payload_at, kind_bar]; rfl
omit [FloatOps F] in
theorem payload_cred (r : ℕ) : (Rd (F := F) m ρ).payload (credCell c) r d = credPay c r := by rw [payload_at, kind_cred]; rfl
omit [FloatOps F] in
theorem payload_send (h : ℕ) : (Rd (F := F) m ρ).payload (sendCell c (sl h)) (h / 2) d = sendPay m ρ c h := by
  rw [payload_at, kind_send, sl_val]
  rcases Nat.mod_two_eq_zero_or_one h with e | e <;> rw [e]
  · show sendPay m ρ c (2 * (h / 2)) = _; rw [show 2 * (h / 2) = h by omega]
  · show sendPay m ρ c (2 * (h / 2) + 1) = _; rw [show 2 * (h / 2) + 1 = h by omega]
omit [FloatOps F] in
theorem payload_recv (h : ℕ) : (Rd (F := F) m ρ).payload (recvCell c (sl (h + 1))) (h / 2) d = recvPay m ρ c h := by
  rw [payload_at, kind_recv, sl_val]
  rcases Nat.mod_two_eq_zero_or_one (h + 1) with e | e <;> rw [e]
  · show recvPay m ρ c (2 * (h / 2) + 1) = _; rw [show 2 * (h / 2) + 1 = h by omega]
  · show recvPay m ρ c (2 * (h / 2)) = _; rw [show 2 * (h / 2) = h by omega]

omit [FloatOps F] in
theorem rest_bar : bigSep ((Rd (F := F) m ρ).duties (barCell c) 0 \ ∅) (fun d => (Rd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_cred {r : ℕ} (h : r < 30) :
    bigSep ((Rd (F := F) m ρ).duties (credCell c) r \ ∅) (fun d => (Rd (F := F) m ρ).payload (credCell c) r d) = credPay c r := by
  rw [Finset.sdiff_empty, duties_cred m ρ c h, bigSep_singleton, payload_cred]
omit [FloatOps F] in
theorem rest_send {h : ℕ} (hh : h < 31) :
    bigSep ((Rd (F := F) m ρ).duties (sendCell c (sl h)) (h / 2) \ ∅) (fun d => (Rd (F := F) m ρ).payload (sendCell c (sl h)) (h / 2) d) = sendPay m ρ c h := by
  rw [Finset.sdiff_empty, duties_send m ρ c hh, bigSep_singleton, payload_send]
omit [FloatOps F] in
theorem rest_recv {h : ℕ} (hh : h < 31) :
    bigSep ((Rd (F := F) m ρ).duties (recvCell c (sl (h + 1))) (h / 2) \ ∅) (fun d => (Rd (F := F) m ρ).payload (recvCell c (sl (h + 1))) (h / 2) d) = recvPay m ρ c h := by
  rw [Finset.sdiff_empty, duties_recv m ρ c hh, bigSep_singleton, payload_recv]

/-- No round from `n` on has a duty, where `n` is the number of rounds of the kind. -/
theorem dut_later (k : Fin 6) : ∀ r, (![1, 30, 16, 15, 15, 16] : Fin 6 → ℕ) k ≤ r → dut k.val r = ∅ := by
  intro r hr
  fin_cases k <;> exact if_neg (by simp at hr; omega)
omit [FloatOps F] in
theorem duties_later (k : Fin 6) : ∀ r, (![1, 30, 16, 15, 15, 16] : Fin 6 → ℕ) k ≤ r → (Rd (F := F) m ρ).duties (kcell (c, k)) r = ∅ := by
  intro r hr
  rw [duties_at, kind_csem]; exact dut_later k r hr

end Sched

/-! ## What a device owes, and the levels -/

/-- What the landing of hop `j` at the right neighbour is worth. -/
abbrev dueR (c : Dev nD) (j : ℕ) : CellTallies nD τ sig ℕ := tallyAt (recvCell (nxt c) (sl (j + 1))) (3 * j + 3) N
/-- What the credit of hop `j` to the left neighbour is worth. -/
abbrev dueC (c : Dev nD) (j : ℕ) : CellTallies nD τ sig ℕ := tallyAt (credCell (prv c)) (3 * j + 4) 1

/-- What a device owes that has `hr` sends and `hc` credits behind it. -/
def due (c : Dev nD) (hr hc : ℕ) : CellTallies nD τ sig ℕ := (∑ j ∈ Finset.Ico hr 31, dueR c j) + ∑ j ∈ Finset.Ico hc 30, dueC c j

/-- What a device owes before its second barrier signal, and before its first. -/
def O₁ (c : Dev nD) : CellTallies nD τ sig ℕ := due c 0 0 + tallyAt (barCell (nxt c)) 1 1
def O₀ (c : Dev nD) : CellTallies nD τ sig ℕ := O₁ c + tallyAt (barCell (prv c)) 1 1

theorem ico_pop {a b : ℕ} (h : a < b) : Finset.Ico a b = insert a (Finset.Ico (a + 1) b) := by
  ext x; simp only [Finset.mem_Ico, Finset.mem_insert]; omega
theorem ico_notMem (a b : ℕ) : a ∉ Finset.Ico (a + 1) b := by simp only [Finset.mem_Ico]; omega

theorem due_send (c : Dev nD) {hr : ℕ} (hc : ℕ) (h : hr < 31) : due c hr hc = due c (hr + 1) hc + dueR c hr := by
  unfold due; rw [ico_pop h, Finset.sum_insert (ico_notMem _ _)]; abel
theorem due_cred (c : Dev nD) (hr : ℕ) {hc : ℕ} (h : hc < 30) : due c hr hc = due c hr (hc + 1) + dueC c hc := by
  unfold due; rw [ico_pop h, Finset.sum_insert (ico_notMem _ _)]; abel
theorem due_done (c : Dev nD) : due c 31 30 = 0 := by unfold due; rw [Finset.Ico_self, Finset.Ico_self, Finset.sum_empty, Finset.sum_empty, add_zero]

abbrev Lv : GSem nD τ sig → Finset ℕ := SiteBlocks.L 128

theorem sum_pos {ι : Type} (s : Finset ι) (f : ι → CellTallies nD τ sig ℕ) (g : GSem nD τ sig) (k : ℕ) (h : 0 < (∑ j ∈ s, f j) g k) :
    ∃ j ∈ s, 0 < f j g k := by
  rw [Finset.sum_apply, Finsupp.finset_sum_apply] at h
  by_contra hn
  exact absurd h (by
    rw [Finset.sum_eq_zero fun j hj => by_contra fun h' => hn ⟨j, hj, Nat.pos_of_ne_zero h'⟩]; exact Nat.lt_irrefl 0)

theorem due_pos {c : Dev nD} {hr hc : ℕ} {g : GSem nD τ sig} {k : ℕ} (h : 0 < due c hr hc g k) :
    k ∈ Lv g ∧ (3 * hr + 3 ≤ k ∨ 3 * hc + 4 ≤ k) := by
  unfold due at h
  rw [Pi.add_apply, Finsupp.add_apply] at h
  rcases Nat.add_pos_iff_pos_or_pos.mp h with h | h
  · obtain ⟨j, hj, h⟩ := sum_pos _ _ g k h
    obtain ⟨rfl, rfl⟩ := Pipeline.tallyAt_pos h
    rw [Finset.mem_Ico] at hj
    exact ⟨SiteBlocks.mem_L' rfl (by omega), Or.inl (by omega)⟩
  · obtain ⟨j, hj, h⟩ := sum_pos _ _ g k h
    obtain ⟨rfl, rfl⟩ := Pipeline.tallyAt_pos h
    rw [Finset.mem_Ico] at hj
    exact ⟨SiteBlocks.mem_L' rfl (by omega), Or.inr (by omega)⟩

omit [FloatOps F] in
/-- A device may wait below everything it owes. -/
theorem mayWait_due (c : Dev nD) (sm : SemLoc sig) {i hr hc : ℕ} (hi : i < 3 * hr + 3) (hi' : i < 3 * hc + 4) (hb : i < 128) :
    (levAts Lv SiteBlocks.lv : sProp 𝕄) ⊢ MayWait (c : Thread nD τ) sm i (due c hr hc) :=
  SiteBlocks.mayWait_of hb c sm _ fun g k h => ⟨(due_pos h).1, by rcases (due_pos h).2 with h' | h' <;> omega⟩

omit [FloatOps F] in
theorem mayWait_start (c : Dev nD) (sm : SemLoc sig) : (levAts Lv SiteBlocks.lv : sProp 𝕄) ⊢ MayWait (c : Thread nD τ) sm 0 (O₀ c) :=
  SiteBlocks.mayWait_of (by decide) c sm _ fun g k h => by
    unfold O₀ O₁ at h
    rw [Pi.add_apply, Finsupp.add_apply, Pi.add_apply, Finsupp.add_apply] at h
    rcases Nat.add_pos_iff_pos_or_pos.mp h with h | h
    · rcases Nat.add_pos_iff_pos_or_pos.mp h with h | h
      · exact ⟨(due_pos h).1, by rcases (due_pos h).2 with h' | h' <;> omega⟩
      · obtain ⟨rfl, rfl⟩ := Pipeline.tallyAt_pos h
        exact ⟨SiteBlocks.mem_L' rfl (by decide), by decide⟩
    · obtain ⟨rfl, rfl⟩ := Pipeline.tallyAt_pos h
      exact ⟨SiteBlocks.mem_L' rfl (by decide), by decide⟩

end Cert.RingGemm

end
-- ==== Proof.Parts.lean ====
/-
# The pieces the printed program is made of

After its start the kernel is a row of four pieces: a product of the block in one slot, an exchange of credits, a send to the
right neighbour and the two waits that end a hop. Each printed part is a row of these pieces.
-/
module

public import proofs.«01_k».proof.Proof.Ring

@[expose] public section

noncomputable section

namespace Cert.RingGemm

open Cert.KernelIdeal Cert.KernelIdeal.Gen

open Idealize.ShloMosaic
open Idealize.ShloMosaic.TcCoe
open Idealize.SL Idealize.SL.Sem

variable {F : FTy → Type} [FloatOps F]

/-- The kernel's programs. -/
abbrev KProg (F : FTy → Type) (α : Type) : Type 1 := Prog (TpuEff nD τ sig (Elt F) Λ₀ .tc) α

/-- The product of the block in slot `s` with `w`, stored at the rows from `off` on. -/
def progMul (s : Fin 2) (off : Fin 2 → ℕ) (inb : ∀ a, off a + S128x64.size a ≤ S4096x64.size a) : KProg F PUnit := do
  let v : Vec F S1x128x4096 .f32 ← Prog.lift (.load cM (slotR s).toLoadRect (View.loadsAt_vmem h_S1x128x4096))
  let w : Vec F S4096x64 .f32 ← Prog.lift (.load wM (Rect.unit (s := S4096x64) ![0, 0] S4096x64.size inb_S4096x64_S4096x64_0_0).toLoadRect (View.loadsAt_vmem h_S4096x64))
  let o : Vec F S128x64 .f32 ← Prog.lift (.load oM (Rect.unit (s := S4096x64) off S128x64.size inb).toLoadRect (View.loadsAt_vmem h_S128x64))
  Prog.lift (.store oM (Rect.unit (s := S4096x64) off S128x64.size inb) (k0_pay4 v w) Finset.univ (View.stores_vmem_bits_univ h_S128x64 rfl) (.inl rfl))
  pure ⟨⟩

/-- The product of the device's own block with `w`, stored at the rows from `off` on. -/
def progOwn (off : Fin 2 → ℕ) (inb : ∀ a, off a + S128x64.size a ≤ S4096x64.size a) : KProg F PUnit := do
  let v : Vec F S128x4096 .f32 ← Prog.lift (.load xM (Rect.unit (s := S128x4096) ![0, 0] S128x4096.size inb_S128x4096_S128x4096_0_0).toLoadRect (View.loadsAt_vmem h_S128x4096))
  let w : Vec F S4096x64 .f32 ← Prog.lift (.load wM (Rect.unit (s := S4096x64) ![0, 0] S4096x64.size inb_S4096x64_S4096x64_0_0).toLoadRect (View.loadsAt_vmem h_S4096x64))
  let o : Vec F S128x64 .f32 ← Prog.lift (.load oM (Rect.unit (s := S4096x64) off S128x64.size inb).toLoadRect (View.loadsAt_vmem h_S128x64))
  Prog.lift (.store oM (Rect.unit (s := S4096x64) off S128x64.size inb) (k0_pay3 v w) Finset.univ (View.stores_vmem_bits_univ h_S128x64 rfl) (.inl rfl))
  pure ⟨⟩

/-- A credit to device `dl`, and a wait for one. -/
def progSig (dl : Dev nD) : KProg F PUnit := do
  semSignalWord dl credS.sem 1#32
  semWaitWord credS.sem 1#32
  pure ⟨⟩

/-- The block in slot `s` sent to slot `s'` of device `dr`. -/
def progSend (s s' : Fin 2) (dr : Dev nD) : KProg F PUnit := do
  Prog.lift (.enqueueDma (slotM s) (.remote (Dev.tc dr) (slotM s') (.dma (sendS s).sem)) (.dma (recvS s').sem)
    ((View.wordExact_bits rfl).reshape _ _) ((View.wordExact_bits rfl).reshape _ _) ⟨⟨rfl, Or.inl rfl⟩, trivial⟩)
  pure ⟨⟩

/-- The waits for the device's own send and for the left neighbour's. -/
def progWait (s s' : Fin 2) : KProg F PUnit := do
  Prog.lift (.waitDma2 (sendS s).sem (slotM s') (slotM s) ((View.wordExact_bits rfl).reshape _ _) ((View.wordExact_bits rfl).reshape _ _))
  Prog.lift (.waitDma2 (recvS s').sem (slotM s) (slotM s') ((View.wordExact_bits rfl).reshape _ _) ((View.wordExact_bits rfl).reshape _ _))
  pure ⟨⟩

/-- The start: the two barrier signals, the wait for both neighbours', and the device's own block put into slot 0. -/
def progStart (dl dr : Dev nD) : KProg F PUnit := do
  semSignalWord dl barS 1#32
  semSignalWord dr barS 1#32
  semWaitWord barS 2#32
  let v : Vec F S128x4096 .f32 ← Prog.lift (.load xM (Rect.unit (s := S128x4096) ![0, 0] S128x4096.size inb_S128x4096_S128x4096_0_0).toLoadRect (View.loadsAt_vmem h_S128x4096))
  let o : Vec F S1x128x4096 .f32 ← Prog.lift (.load cM (slotR (sl 0)).toLoadRect (View.loadsAt_vmem h_S1x128x4096))
  Prog.lift (.store cM (slotR (sl 0)) (k0_pay2 v) Finset.univ (View.stores_vmem_bits_univ h_S1x128x4096 rfl) (.inl rfl))
  pure ⟨⟩

section Parts
variable (d : Dev nD) (v2 v5 v7 v51 c32 : BitVec 32)

theorem part1_eq : k0_part1 (F := F) xM (Memref.isWhole_whole _) wM (Memref.isWhole_whole _) oM (Memref.isWhole_whole _) cM (Memref.isWhole_whole _) cc0_scratch1 cc0_scratch2 cc0_scratch3
    = (Prog.lift .deviceId >>= fun d : Dev nD => progStart ⟨k0_dev1 d, k0_dev1_lt d⟩ ⟨k0_dev2 d, k0_dev2_lt d⟩ >>= fun _ => pure ⟨d, (Scalar.remsi (Scalar.divsi (Dev.word d) 1#32) 32#32),
        Scalar.remsi (Scalar.addi (Scalar.subi (Scalar.remsi (Scalar.divsi (Dev.word d) 1#32) 32#32) 1#32) 32#32) 32#32, Scalar.remsi (Scalar.addi (Scalar.remsi (Scalar.divsi (Dev.word d) 1#32) 32#32) 1#32) 32#32⟩) := by
  rw [k0_part1_eq_skeleton]; rfl
theorem part2_eq : k0_part2 (F := F) xM (Memref.isWhole_whole _) wM (Memref.isWhole_whole _) oM (Memref.isWhole_whole _) cM (Memref.isWhole_whole _) cc0_scratch1 cc0_scratch2 cc0_scratch3 d v2 v7
    = (progSend (sl 0) (sl 1) ⟨k0_dev3 d, k0_dev3_lt d⟩ >>= fun _ => progOwn (k0_off1 d) (k0_off1_inb d) >>= fun _ => progWait (sl 0) (sl 1) >>= fun _ =>
        pure ⟨Scalar.subi (Scalar.subi v2 0#32) 1#32, 32#32⟩) := by
  rw [k0_part2_eq_skeleton]; rfl
theorem part3_eq : k0_part3 (F := F) xM (Memref.isWhole_whole _) wM (Memref.isWhole_whole _) oM (Memref.isWhole_whole _) cM (Memref.isWhole_whole _) cc0_scratch1 cc0_scratch2 cc0_scratch3 d v5 v7 v51 c32
    = (progMul (sl 1) (k0_off2 d 0#32) (k0_off2_inb d 0) >>= fun _ => progSig ⟨k0_dev4 d, k0_dev4_lt d⟩ >>= fun _ => progSend (sl 1) (sl 2) ⟨k0_dev5 d, k0_dev5_lt d⟩) := by
  rw [k0_part3_eq_skeleton]; rfl
theorem part4_eq : k0_part4 (F := F) xM (Memref.isWhole_whole _) wM (Memref.isWhole_whole _) oM (Memref.isWhole_whole _) cM (Memref.isWhole_whole _) cc0_scratch1 cc0_scratch2 cc0_scratch3 d v2 v5 v7
    = (progWait (sl 1) (sl 2) >>= fun _ => progMul (sl 2) (k0_off2 d 1#32) (k0_off2_inb d 1) >>= fun _ => progSig ⟨k0_dev6 d, k0_dev6_lt d⟩) := by
  rw [k0_part4_eq_skeleton]; rfl
theorem part5_eq : k0_part5 (F := F) xM (Memref.isWhole_whole _) wM (Memref.isWhole_whole _) oM (Memref.isWhole_whole _) cM (Memref.isWhole_whole _) cc0_scratch1 cc0_scratch2 cc0_scratch3 d v2 v7
    = (progSend (sl 2) (sl 3) ⟨k0_dev7 d, k0_dev7_lt d⟩ >>= fun _ => progWait (sl 2) (sl 3) >>= fun _ => pure ⟨Scalar.subi (Scalar.subi v2 2#32) 1#32, 32#32⟩) := by
  rw [k0_part5_eq_skeleton]; rfl
theorem part6_eq : k0_part6 (F := F) xM (Memref.isWhole_whole _) wM (Memref.isWhole_whole _) oM (Memref.isWhole_whole _) cM (Memref.isWhole_whole _) cc0_scratch1 cc0_scratch2 cc0_scratch3 d v5 v7 v51 c32
    = (progMul (sl 3) (k0_off2 d 2#32) (k0_off2_inb d 2) >>= fun _ => progSig ⟨k0_dev8 d, k0_dev8_lt d⟩ >>= fun _ => progSend (sl 3) (sl 4) ⟨k0_dev9 d, k0_dev9_lt d⟩) := by
  rw [k0_part6_eq_skeleton]; rfl
theorem part7_eq : k0_part7 (F := F) xM (Memref.isWhole_whole _) wM (Memref.isWhole_whole _) oM (Memref.isWhole_whole _) cM (Memref.isWhole_whole _) cc0_scratch1 cc0_scratch2 cc0_scratch3 d v2 v5 v7
    = (progWait (sl 3) (sl 4) >>= fun _ => progMul (sl 4) (k0_off2 d 3#32) (k0_off2_inb d 3) >>= fun _ => progSig ⟨k0_dev10 d, k0_dev10_lt d⟩) := by
  rw [k0_part7_eq_skeleton]; rfl
theorem part8_eq : k0_part8 (F := F) xM (Memref.isWhole_whole _) wM (Memref.isWhole_whole _) oM (Memref.isWhole_whole _) cM (Memref.isWhole_whole _) cc0_scratch1 cc0_scratch2 cc0_scratch3 d v2 v7
    = (progSend (sl 4) (sl 5) ⟨k0_dev11 d, k0_dev11_lt d⟩ >>= fun _ => progWait (sl 4) (sl 5) >>= fun _ => pure ⟨Scalar.subi (Scalar.subi v2 4#32) 1#32, 32#32⟩) := by
  rw [k0_part8_eq_skeleton]; rfl
theorem part9_eq : k0_part9 (F := F) xM (Memref.isWhole_whole _) wM (Memref.isWhole_whole _) oM (Memref.isWhole_whole _) cM (Memref.isWhole_whole _) cc0_scratch1 cc0_scratch2 cc0_scratch3 d v5 v7 v51 c32
    = (progMul (sl 5) (k0_off2 d 4#32) (k0_off2_inb d 4) >>= fun _ => progSig ⟨k0_dev12 d, k0_dev12_lt d⟩ >>= fun _ => progSend (sl 5) (sl 6) ⟨k0_dev13 d, k0_dev13_lt d⟩) := by
  rw [k0_part9_eq_skeleton]; rfl
theorem part10_eq : k0_part10 (F := F) xM (Memref.isWhole_whole _) wM (Memref.isWhole_whole _) oM (Memref.isWhole_whole _) cM (Memref.isWhole_whole _) cc0_scratch1 cc0_scratch2 cc0_scratch3 d v2 v5 v7
    = (progWait (sl 5) (sl 6) >>= fun _ => progMul (sl 6) (k0_off2 d 5#32) (k0_off2_inb d 5) >>= fun _ => progSig ⟨k0_dev14 d, k0_dev14_lt d⟩) := by
  rw [k0_part10_eq_skeleton]; rfl
theorem part11_eq : k0_part11 (F := F) xM (Memref.isWhole_whole _) wM (Memref.isWhole_whole _) oM (Memref.isWhole_whole _) cM (Memref.isWhole_whole _) cc0_scratch1 cc0_scratch2 cc0_scratch3 d v2 v7
    = (progSend (sl 6) (sl 7) ⟨k0_dev15 d, k0_dev15_lt d⟩ >>= fun _ => progWait (sl 6) (sl 7) >>= fun _ => pure ⟨Scalar.subi (Scalar.subi v2 6#32) 1#32, 32#32⟩) := by
  rw [k0_part11_eq_skeleton]; rfl
theorem part12_eq : k0_part12 (F := F) xM (Memref.isWhole_whole _) wM (Memref.isWhole_whole _) oM (Memref.isWhole_whole _) cM (Memref.isWhole_whole _) cc0_scratch1 cc0_scratch2 cc0_scratch3 d v5 v7 v51 c32
    = (progMul (sl 7) (k0_off2 d 6#32) (k0_off2_inb d 6) >>= fun _ => progSig ⟨k0_dev16 d, k0_dev16_lt d⟩ >>= fun _ => progSend (sl 7) (sl 8) ⟨k0_dev17 d, k0_dev17_lt d⟩) := by
  rw [k0_part12_eq_skeleton]; rfl
theorem part13_eq : k0_part13 (F := F) xM (Memref.isWhole_whole _) wM (Memref.isWhole_whole _) oM (Memref.isWhole_whole _) cM (Memref.isWhole_whole _) cc0_scratch1 cc0_scratch2 cc0_scratch3 d v2 v5 v7
    = (progWait (sl 7) (sl 8) >>= fun _ => progMul (sl 8) (k0_off2 d 7#32) (k0_off2_inb d 7) >>= fun _ => progSig ⟨k0_dev18 d, k0_dev18_lt d⟩) := by
  rw [k0_part13_eq_skeleton]; rfl
theorem part14_eq : k0_part14 (F := F) xM (Memref.isWhole_whole _) wM (Memref.isWhole_whole _) oM (Memref.isWhole_whole _) cM (Memref.isWhole_whole _) cc0_scratch1 cc0_scratch2 cc0_scratch3 d v2 v7
    = (progSend (sl 8) (sl 9) ⟨k0_dev19 d, k0_dev19_lt d⟩ >>= fun _ => progWait (sl 8) (sl 9) >>= fun _ => pure ⟨Scalar.subi (Scalar.subi v2 8#32) 1#32, 32#32⟩) := by
  rw [k0_part14_eq_skeleton]; rfl
theorem part15_eq : k0_part15 (F := F) xM (Memref.isWhole_whole _) wM (Memref.isWhole_whole _) oM (Memref.isWhole_whole _) cM (Memref.isWhole_whole _) cc0_scratch1 cc0_scratch2 cc0_scratch3 d v5 v7 v51 c32
    = (progMul (sl 9) (k0_off2 d 8#32) (k0_off2_inb d 8) >>= fun _ => progSig ⟨k0_dev20 d, k0_dev20_lt d⟩ >>= fun _ => progSend (sl 9) (sl 10) ⟨k0_dev21 d, k0_dev21_lt d⟩) := by
  rw [k0_part15_eq_skeleton]; rfl
theorem part16_eq : k0_part16 (F := F) xM (Memref.isWhole_whole _) wM (Memref.isWhole_whole _) oM (Memref.isWhole_whole _) cM (Memref.isWhole_whole _) cc0_scratch1 cc0_scratch2 cc0_scratch3 d v2 v5 v7
    = (progWait (sl 9) (sl 10) >>= fun _ => progMul (sl 10) (k0_off2 d 9#32) (k0_off2_inb d 9) >>= fun _ => progSig ⟨k0_dev22 d, k0_dev22_lt d⟩) := by
  rw [k0_part16_eq_skeleton]; rfl
theorem part17_eq : k0_part17 (F := F) xM (Memref.isWhole_whole _) wM (Memref.isWhole_whole _) oM (Memref.isWhole_whole _) cM (Memref.isWhole_whole _) cc0_scratch1 cc0_scratch2 cc0_scratch3 d v2 v7
    = (progSend (sl 10) (sl 11) ⟨k0_dev23 d, k0_dev23_lt d⟩ >>= fun _ => progWait (sl 10) (sl 11) >>= fun _ => pure ⟨Scalar.subi (Scalar.subi v2 10#32) 1#32, 32#32⟩) := by
  rw [k0_part17_eq_skeleton]; rfl
theorem part18_eq : k0_part18 (F := F) xM (Memref.isWhole_whole _) wM (Memref.isWhole_whole _) oM (Memref.isWhole_whole _) cM (Memref.isWhole_whole _) cc0_scratch1 cc0_scratch2 cc0_scratch3 d v5 v7 v51 c32
    = (progMul (sl 11) (k0_off2 d 10#32) (k0_off2_inb d 10) >>= fun _ => progSig ⟨k0_dev24 d, k0_dev24_lt d⟩ >>= fun _ => progSend (sl 11) (sl 12) ⟨k0_dev25 d, k0_dev25_lt d⟩) := by
  rw [k0_part18_eq_skeleton]; rfl
theorem part19_eq : k0_part19 (F := F) xM (Memref.isWhole_whole _) wM (Memref.isWhole_whole _) oM (Memref.isWhole_whole _) cM (Memref.isWhole_whole _) cc0_scratch1 cc0_scratch2 cc0_scratch3 d v2 v5 v7
    = (progWait (sl 11) (sl 12) >>= fun _ => progMul (sl 12) (k0_off2 d 11#32) (k0_off2_inb d 11) >>= fun _ => progSig ⟨k0_dev26 d, k0_dev26_lt d⟩) := by
  rw [k0_part19_eq_skeleton]; rfl
theorem part20_eq : k0_part20 (F := F) xM (Memref.isWhole_whole _) wM (Memref.isWhole_whole _) oM (Memref.isWhole_whole _) cM (Memref.isWhole_whole _) cc0_scratch1 cc0_scratch2 cc0_scratch3 d v2 v7
    = (progSend (sl 12) (sl 13) ⟨k0_dev27 d, k0_dev27_lt d⟩ >>= fun _ => progWait (sl 12) (sl 13) >>= fun _ => pure ⟨Scalar.subi (Scalar.subi v2 12#32) 1#32, 32#32⟩) := by
  rw [k0_part20_eq_skeleton]; rfl
theorem part21_eq : k0_part21 (F := F) xM (Memref.isWhole_whole _) wM (Memref.isWhole_whole _) oM (Memref.isWhole_whole _) cM (Memref.isWhole_whole _) cc0_scratch1 cc0_scratch2 cc0_scratch3 d v5 v7 v51 c32
    = (progMul (sl 13) (k0_off2 d 12#32) (k0_off2_inb d 12) >>= fun _ => progSig ⟨k0_dev28 d, k0_dev28_lt d⟩ >>= fun _ => progSend (sl 13) (sl 14) ⟨k0_dev29 d, k0_dev29_lt d⟩) := by
  rw [k0_part21_eq_skeleton]; rfl
theorem part22_eq : k0_part22 (F := F) xM (Memref.isWhole_whole _) wM (Memref.isWhole_whole _) oM (Memref.isWhole_whole _) cM (Memref.isWhole_whole _) cc0_scratch1 cc0_scratch2 cc0_scratch3 d v2 v5 v7
    = (progWait (sl 13) (sl 14) >>= fun _ => progMul (sl 14) (k0_off2 d 13#32) (k0_off2_inb d 13) >>= fun _ => progSig ⟨k0_dev30 d, k0_dev30_lt d⟩) := by
  rw [k0_part22_eq_skeleton]; rfl
theorem part23_eq : k0_part23 (F := F) xM (Memref.isWhole_whole _) wM (Memref.isWhole_whole _) oM (Memref.isWhole_whole _) cM (Memref.isWhole_whole _) cc0_scratch1 cc0_scratch2 cc0_scratch3 d v2 v7
    = (progSend (sl 14) (sl 15) ⟨k0_dev31 d, k0_dev31_lt d⟩ >>= fun _ => progWait (sl 14) (sl 15) >>= fun _ => pure ⟨Scalar.subi (Scalar.subi v2 14#32) 1#32, 32#32⟩) := by
  rw [k0_part23_eq_skeleton]; rfl
theorem part24_eq : k0_part24 (F := F) xM (Memref.isWhole_whole _) wM (Memref.isWhole_whole _) oM (Memref.isWhole_whole _) cM (Memref.isWhole_whole _) cc0_scratch1 cc0_scratch2 cc0_scratch3 d v5 v7 v51 c32
    = (progMul (sl 15) (k0_off2 d 14#32) (k0_off2_inb d 14) >>= fun _ => progSig ⟨k0_dev32 d, k0_dev32_lt d⟩ >>= fun _ => progSend (sl 15) (sl 16) ⟨k0_dev33 d, k0_dev33_lt d⟩) := by
  rw [k0_part24_eq_skeleton]; rfl
theorem part25_eq : k0_part25 (F := F) xM (Memref.isWhole_whole _) wM (Memref.isWhole_whole _) oM (Memref.isWhole_whole _) cM (Memref.isWhole_whole _) cc0_scratch1 cc0_scratch2 cc0_scratch3 d v2 v5 v7
    = (progWait (sl 15) (sl 16) >>= fun _ => progMul (sl 16) (k0_off2 d 15#32) (k0_off2_inb d 15) >>= fun _ => progSig ⟨k0_dev34 d, k0_dev34_lt d⟩) := by
  rw [k0_part25_eq_skeleton]; rfl
theorem part26_eq : k0_part26 (F := F) xM (Memref.isWhole_whole _) wM (Memref.isWhole_whole _) oM (Memref.isWhole_whole _) cM (Memref.isWhole_whole _) cc0_scratch1 cc0_scratch2 cc0_scratch3 d v2 v7
    = (progSend (sl 16) (sl 17) ⟨k0_dev35 d, k0_dev35_lt d⟩ >>= fun _ => progWait (sl 16) (sl 17) >>= fun _ => pure ⟨Scalar.subi (Scalar.subi v2 16#32) 1#32, 32#32⟩) := by
  rw [k0_part26_eq_skeleton]; rfl
theorem part27_eq : k0_part27 (F := F) xM (Memref.isWhole_whole _) wM (Memref.isWhole_whole _) oM (Memref.isWhole_whole _) cM (Memref.isWhole_whole _) cc0_scratch1 cc0_scratch2 cc0_scratch3 d v5 v7 v51 c32
    = (progMul (sl 17) (k0_off2 d 16#32) (k0_off2_inb d 16) >>= fun _ => progSig ⟨k0_dev36 d, k0_dev36_lt d⟩ >>= fun _ => progSend (sl 17) (sl 18) ⟨k0_dev37 d, k0_dev37_lt d⟩) := by
  rw [k0_part27_eq_skeleton]; rfl
theorem part28_eq : k0_part28 (F := F) xM (Memref.isWhole_whole _) wM (Memref.isWhole_whole _) oM (Memref.isWhole_whole _) cM (Memref.isWhole_whole _) cc0_scratch1 cc0_scratch2 cc0_scratch3 d v2 v5 v7
    = (progWait (sl 17) (sl 18) >>= fun _ => progMul (sl 18) (k0_off2 d 17#32) (k0_off2_inb d 17) >>= fun _ => progSig ⟨k0_dev38 d, k0_dev38_lt d⟩) := by
  rw [k0_part28_eq_skeleton]; rfl
theorem part29_eq : k0_part29 (F := F) xM (Memref.isWhole_whole _) wM (Memref.isWhole_whole _) oM (Memref.isWhole_whole _) cM (Memref.isWhole_whole _) cc0_scratch1 cc0_scratch2 cc0_scratch3 d v2 v7
    = (progSend (sl 18) (sl 19) ⟨k0_dev39 d, k0_dev39_lt d⟩ >>= fun _ => progWait (sl 18) (sl 19) >>= fun _ => pure ⟨Scalar.subi (Scalar.subi v2 18#32) 1#32, 32#32⟩) := by
  rw [k0_part29_eq_skeleton]; rfl
theorem part30_eq : k0_part30 (F := F) xM (Memref.isWhole_whole _) wM (Memref.isWhole_whole _) oM (Memref.isWhole_whole _) cM (Memref.isWhole_whole _) cc0_scratch1 cc0_scratch2 cc0_scratch3 d v5 v7 v51 c32
    = (progMul (sl 19) (k0_off2 d 18#32) (k0_off2_inb d 18) >>= fun _ => progSig ⟨k0_dev40 d, k0_dev40_lt d⟩ >>= fun _ => progSend (sl 19) (sl 20) ⟨k0_dev41 d, k0_dev41_lt d⟩) := by
  rw [k0_part30_eq_skeleton]; rfl
theorem part31_eq : k0_part31 (F := F) xM (Memref.isWhole_whole _) wM (Memref.isWhole_whole _) oM (Memref.isWhole_whole _) cM (Memref.isWhole_whole _) cc0_scratch1 cc0_scratch2 cc0_scratch3 d v2 v5 v7
    = (progWait (sl 19) (sl 20) >>= fun _ => progMul (sl 20) (k0_off2 d 19#32) (k0_off2_inb d 19) >>= fun _ => progSig ⟨k0_dev42 d, k0_dev42_lt d⟩) := by
  rw [k0_part31_eq_skeleton]; rfl
theorem part32_eq : k0_part32 (F := F) xM (Memref.isWhole_whole _) wM (Memref.isWhole_whole _) oM (Memref.isWhole_whole _) cM (Memref.isWhole_whole _) cc0_scratch1 cc0_scratch2 cc0_scratch3 d v2 v7
    = (progSend (sl 20) (sl 21) ⟨k0_dev43 d, k0_dev43_lt d⟩ >>= fun _ => progWait (sl 20) (sl 21) >>= fun _ => pure ⟨Scalar.subi (Scalar.subi v2 20#32) 1#32, 32#32⟩) := by
  rw [k0_part32_eq_skeleton]; rfl
theorem part33_eq : k0_part33 (F := F) xM (Memref.isWhole_whole _) wM (Memref.isWhole_whole _) oM (Memref.isWhole_whole _) cM (Memref.isWhole_whole _) cc0_scratch1 cc0_scratch2 cc0_scratch3 d v5 v7 v51 c32
    = (progMul (sl 21) (k0_off2 d 20#32) (k0_off2_inb d 20) >>= fun _ => progSig ⟨k0_dev44 d, k0_dev44_lt d⟩ >>= fun _ => progSend (sl 21) (sl 22) ⟨k0_dev45 d, k0_dev45_lt d⟩) := by
  rw [k0_part33_eq_skeleton]; rfl
theorem part34_eq : k0_part34 (F := F) xM (Memref.isWhole_whole _) wM (Memref.isWhole_whole _) oM (Memref.isWhole_whole _) cM (Memref.isWhole_whole _) cc0_scratch1 cc0_scratch2 cc0_scratch3 d v2 v5 v7
    = (progWait (sl 21) (sl 22) >>= fun _ => progMul (sl 22) (k0_off2 d 21#32) (k0_off2_inb d 21) >>= fun _ => progSig ⟨k0_dev46 d, k0_dev46_lt d⟩) := by
  rw [k0_part34_eq_skeleton]; rfl
theorem part35_eq : k0_part35 (F := F) xM (Memref.isWhole_whole _) wM (Memref.isWhole_whole _) oM (Memref.isWhole_whole _) cM (Memref.isWhole_whole _) cc0_scratch1 cc0_scratch2 cc0_scratch3 d v2 v7
    = (progSend (sl 22) (sl 23) ⟨k0_dev47 d, k0_dev47_lt d⟩ >>= fun _ => progWait (sl 22) (sl 23) >>= fun _ => pure ⟨Scalar.subi (Scalar.subi v2 22#32) 1#32, 32#32⟩) := by
  rw [k0_part35_eq_skeleton]; rfl
theorem part36_eq : k0_part36 (F := F) xM (Memref.isWhole_whole _) wM (Memref.isWhole_whole _) oM (Memref.isWhole_whole _) cM (Memref.isWhole_whole _) cc0_scratch1 cc0_scratch2 cc0_scratch3 d v5 v7 v51 c32
    = (progMul (sl 23) (k0_off2 d 22#32) (k0_off2_inb d 22) >>= fun _ => progSig ⟨k0_dev48 d, k0_dev48_lt d⟩ >>= fun _ => progSend (sl 23) (sl 24) ⟨k0_dev49 d, k0_dev49_lt d⟩) := by
  rw [k0_part36_eq_skeleton]; rfl
theorem part37_eq : k0_part37 (F := F) xM (Memref.isWhole_whole _) wM (Memref.isWhole_whole _) oM (Memref.isWhole_whole _) cM (Memref.isWhole_whole _) cc0_scratch1 cc0_scratch2 cc0_scratch3 d v2 v5 v7
    = (progWait (sl 23) (sl 24) >>= fun _ => progMul (sl 24) (k0_off2 d 23#32) (k0_off2_inb d 23) >>= fun _ => progSig ⟨k0_dev50 d, k0_dev50_lt d⟩) := by
  rw [k0_part37_eq_skeleton]; rfl
theorem part38_eq : k0_part38 (F := F) xM (Memref.isWhole_whole _) wM (Memref.isWhole_whole _) oM (Memref.isWhole_whole _) cM (Memref.isWhole_whole _) cc0_scratch1 cc0_scratch2 cc0_scratch3 d v2 v7
    = (progSend (sl 24) (sl 25) ⟨k0_dev51 d, k0_dev51_lt d⟩ >>= fun _ => progWait (sl 24) (sl 25) >>= fun _ => pure ⟨Scalar.subi (Scalar.subi v2 24#32) 1#32, 32#32⟩) := by
  rw [k0_part38_eq_skeleton]; rfl
theorem part39_eq : k0_part39 (F := F) xM (Memref.isWhole_whole _) wM (Memref.isWhole_whole _) oM (Memref.isWhole_whole _) cM (Memref.isWhole_whole _) cc0_scratch1 cc0_scratch2 cc0_scratch3 d v5 v7 v51 c32
    = (progMul (sl 25) (k0_off2 d 24#32) (k0_off2_inb d 24) >>= fun _ => progSig ⟨k0_dev52 d, k0_dev52_lt d⟩ >>= fun _ => progSend (sl 25) (sl 26) ⟨k0_dev53 d, k0_dev53_lt d⟩) := by
  rw [k0_part39_eq_skeleton]; rfl
theorem part40_eq : k0_part40 (F := F) xM (Memref.isWhole_whole _) wM (Memref.isWhole_whole _) oM (Memref.isWhole_whole _) cM (Memref.isWhole_whole _) cc0_scratch1 cc0_scratch2 cc0_scratch3 d v2 v5 v7
    = (progWait (sl 25) (sl 26) >>= fun _ => progMul (sl 26) (k0_off2 d 25#32) (k0_off2_inb d 25) >>= fun _ => progSig ⟨k0_dev54 d, k0_dev54_lt d⟩) := by
  rw [k0_part40_eq_skeleton]; rfl
theorem part41_eq : k0_part41 (F := F) xM (Memref.isWhole_whole _) wM (Memref.isWhole_whole _) oM (Memref.isWhole_whole _) cM (Memref.isWhole_whole _) cc0_scratch1 cc0_scratch2 cc0_scratch3 d v2 v7
    = (progSend (sl 26) (sl 27) ⟨k0_dev55 d, k0_dev55_lt d⟩ >>= fun _ => progWait (sl 26) (sl 27) >>= fun _ => pure ⟨Scalar.subi (Scalar.subi v2 26#32) 1#32, 32#32⟩) := by
  rw [k0_part41_eq_skeleton]; rfl
theorem part42_eq : k0_part42 (F := F) xM (Memref.isWhole_whole _) wM (Memref.isWhole_whole _) oM (Memref.isWhole_whole _) cM (Memref.isWhole_whole _) cc0_scratch1 cc0_scratch2 cc0_scratch3 d v5 v7 v51 c32
    = (progMul (sl 27) (k0_off2 d 26#32) (k0_off2_inb d 26) >>= fun _ => progSig ⟨k0_dev56 d, k0_dev56_lt d⟩ >>= fun _ => progSend (sl 27) (sl 28) ⟨k0_dev57 d, k0_dev57_lt d⟩) := by
  rw [k0_part42_eq_skeleton]; rfl
theorem part43_eq : k0_part43 (F := F) xM (Memref.isWhole_whole _) wM (Memref.isWhole_whole _) oM (Memref.isWhole_whole _) cM (Memref.isWhole_whole _) cc0_scratch1 cc0_scratch2 cc0_scratch3 d v2 v5 v7
    = (progWait (sl 27) (sl 28) >>= fun _ => progMul (sl 28) (k0_off2 d 27#32) (k0_off2_inb d 27) >>= fun _ => progSig ⟨k0_dev58 d, k0_dev58_lt d⟩) := by
  rw [k0_part43_eq_skeleton]; rfl
theorem part44_eq : k0_part44 (F := F) xM (Memref.isWhole_whole _) wM (Memref.isWhole_whole _) oM (Memref.isWhole_whole _) cM (Memref.isWhole_whole _) cc0_scratch1 cc0_scratch2 cc0_scratch3 d v2 v7
    = (progSend (sl 28) (sl 29) ⟨k0_dev59 d, k0_dev59_lt d⟩ >>= fun _ => progWait (sl 28) (sl 29) >>= fun _ => pure ⟨Scalar.subi (Scalar.subi v2 28#32) 1#32, 32#32⟩) := by
  rw [k0_part44_eq_skeleton]; rfl
theorem part45_eq : k0_part45 (F := F) xM (Memref.isWhole_whole _) wM (Memref.isWhole_whole _) oM (Memref.isWhole_whole _) cM (Memref.isWhole_whole _) cc0_scratch1 cc0_scratch2 cc0_scratch3 d v5 v7 v51 c32
    = (progMul (sl 29) (k0_off2 d 28#32) (k0_off2_inb d 28) >>= fun _ => progSig ⟨k0_dev60 d, k0_dev60_lt d⟩ >>= fun _ => progSend (sl 29) (sl 30) ⟨k0_dev61 d, k0_dev61_lt d⟩) := by
  rw [k0_part45_eq_skeleton]; rfl
theorem part46_eq : k0_part46 (F := F) xM (Memref.isWhole_whole _) wM (Memref.isWhole_whole _) oM (Memref.isWhole_whole _) cM (Memref.isWhole_whole _) cc0_scratch1 cc0_scratch2 cc0_scratch3 d v2 v5 v7
    = (progWait (sl 29) (sl 30) >>= fun _ => progMul (sl 30) (k0_off2 d 29#32) (k0_off2_inb d 29) >>= fun _ => progSig ⟨k0_dev62 d, k0_dev62_lt d⟩) := by
  rw [k0_part46_eq_skeleton]; rfl
theorem part47_eq : k0_part47 (F := F) xM (Memref.isWhole_whole _) wM (Memref.isWhole_whole _) oM (Memref.isWhole_whole _) cM (Memref.isWhole_whole _) cc0_scratch1 cc0_scratch2 cc0_scratch3 d v2 v7
    = (progSend (sl 30) (sl 31) ⟨k0_dev63 d, k0_dev63_lt d⟩ >>= fun _ => progWait (sl 30) (sl 31) >>= fun _ => pure ⟨Scalar.subi (Scalar.subi v2 30#32) 1#32, 32#32⟩) := by
  rw [k0_part47_eq_skeleton]; rfl

end Parts

end Cert.RingGemm

end
-- ==== Proof.Steps.lean ====
/-
# The pieces, one after another

What a device holds before a hop (`Pre`), between its send and its waits (`Mid`) and after them (`Post`), and what each piece of
the program makes of it.
-/
module

public import proofs.«01_k».proof.Proof.Parts

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The memory -/

theorem slot_set (s : Fin 2) : (slotM s).view.set = (slotR s).set :=
  (Memref.set_view_squeeze _ _).trans (View.set_slice_whole _ _)

theorem slot_disj : Disjoint (slotM 0).view.set (slotM 1).view.set := by
  rw [slot_set, slot_set]
  exact Rect.unit_disjoint (0 : Fin 3) (Or.inl (by decide))

theorem slot_cover : (slotM 0).view.set ∪ (slotM 1).view.set = (Finset.univ : Finset S2x128x4096.Idx) := by
  rw [slot_set, slot_set]
  refine Finset.eq_univ_of_forall fun i => ?_
  rw [Finset.mem_union, Rect.mem_set_unit, Rect.mem_set_unit]
  have h0 : (i 0).val < 2 := (i 0).isLt
  have h1 : (i 1).val < 128 := (i 1).isLt
  have h2 : (i 2).val < 4096 := (i 2).isLt
  by_cases h : (i 0).val = 0
  · refine Or.inl fun a => ?_
    fin_cases a
    · exact ⟨Nat.zero_le _, by show (i 0).val < 0 + 1; omega⟩
    · exact ⟨Nat.zero_le _, by show (i 1).val < 0 + 128; omega⟩
    · exact ⟨Nat.zero_le _, by show (i 2).val < 0 + 4096; omega⟩
  · refine Or.inr fun a => ?_
    fin_cases a
    · exact ⟨by show 1 ≤ (i 0).val; omega, by show (i 0).val < 1 + 1; omega⟩
    · exact ⟨Nat.zero_le _, by show (i 1).val < 0 + 128; omega⟩
    · exact ⟨Nat.zero_le _, by show (i 2).val < 0 + 4096; omega⟩

omit [FloatOps F] in
/-- The communication buffer is its two slots. -/
theorem scratch_split (c : Dev nD) : iprop(∃ f : Buf (Elt F) ((c : Thread nD τ).loc cc0_scratch0), (((c : Thread nD τ).loc cc0_scratch0) ↦{fullShare} f))
    ⊢ (iprop(slotAny c 0 ∗ slotAny c 1) : sProp 𝕄) := by
  iintro ⟨%f, H⟩
  ihave H' := (Entails.of_eq (show (((c : Thread nD τ).loc cc0_scratch0) ↦{fullShare} f : sProp 𝕄)
      = (((c : Thread nD τ).loc cc0_scratch0) ↦[(slotM 0).view.set ∪ (slotM 1).view.set]{fullShare} f) by rw [slot_cover])) $$ H
  ihave H' := (pointsTo_union slot_disj).1 $$ H'
  icases H' with ⟨H0, H1⟩
  unfold slotAny slot owns
  isplitl [H0]
  · iexists _; iexists f; isplitr; · (ipureintro; rfl)
    iexact H0
  · iexists _; iexists f; isplitr; · (ipureintro; rfl)
    iexact H1

omit [FloatOps F] in
theorem scratch_join (c : Dev nD) : (iprop(slotAny c 0 ∗ slotAny c 1) : sProp 𝕄)
    ⊢ iprop(∃ f : Buf (Elt F) ((c : Thread nD τ).loc cc0_scratch0), (((c : Thread nD τ).loc cc0_scratch0) ↦{fullShare} f)) := by
  unfold slotAny slot owns
  iintro ⟨⟨%X, %f, %hf, H0⟩, ⟨%Y, %g, %hg, H1⟩⟩
  ihave H := (pointsTo_join (ℓ := (c : Thread nD τ).loc cc0_scratch0) (q := fullShare) (f := f) (g := g) slot_disj) $$ [H0 H1]
  · isplitl [H0]; · iexact H0
    iexact H1
  rw [slot_cover]
  iexists _; iexact H

/-! ## Contents of the output -/

theorem row_inb (d : Dev nD) : ∀ a, (![128 * d.val, 0] : Fin 2 → ℕ) a + S128x64.size a ≤ S4096x64.size a := by
  revert d; decide +kernel

/-- The rows of the output that device `d`'s block of `x` makes. -/
abbrev rowR (d : Dev nD) : Rect S4096x64 := Rect.unit (s := S4096x64) ![128 * d.val, 0] S128x64.size (row_inb d)

/-- A block of `x` times a block of `w`. -/
def prod (X : XBlk F) (W : Vec F S4096x64 .f32) : FVec F S128x64 .f32 :=
  matmul dot_S128x4096_S4096x64_S128x64_1_0_0_1_n_n none X W (constant S128x64 .f32 0x00000000#32)

theorem pay3_eq (X : Vec F S128x4096 .f32) (W : Vec F S4096x64 .f32) : k0_pay3 X W = prod X W := by
  exact congrArg₂ (fun v w => matmul dot_S128x4096_S4096x64_S128x64_1_0_0_1_n_n none v w _) (shapeCast_self X _) (shapeCast_self W _)

theorem pay4_eq (v : Vec F S1x128x4096 .f32) (X : XBlk F) (W : Vec F S4096x64 .f32)
    (hv : shapeCast S128x4096 v shapeCasts_S1x128x4096_S128x4096 = X) : k0_pay4 v W = prod X W := by
  subst hv
  exact congrArg (fun w => matmul dot_S128x4096_S4096x64_S128x64_1_0_0_1_n_n none _ w _) (shapeCast_self W _)

/-- The first `n` blocks of the output are in place. -/
def Good (c : Dev nD) (n : ℕ) (g : (cc0_stg2_0 : Ref sig .tc).ty.Contents (Elt F)) : Prop :=
  ∀ j < n, (oM.access (rowR (back j c))).read (Elt F) g = prod (xstg m ρ (back j c)) (wstg m ρ c)

theorem good_step (c : Dev nD) {n : ℕ} (hn : n < 32) (g : (cc0_stg2_0 : Ref sig .tc).ty.Contents (Elt F)) (hg : Good m ρ c n g) :
    Good m ρ c (n + 1) ((oM.access (rowR (back n c))).write (Elt F) g (prod (xstg m ρ (back n c)) (wstg m ρ c)) Finset.univ) := by
  intro j hj
  rcases Nat.lt_succ_iff_lt_or_eq.mp hj with h | rfl
  · rw [← hg j h]
    refine View.read_slice_write_slice_of_disjoint (v := oM.view) (rowR (back j c)) (rowR (back n c)) g _ Finset.univ ?_
    rw [show ((oM.view.slice (rowR (back n c))).setOn Finset.univ) = (oM.view.slice (rowR (back n c))).set from rfl]
    rw [View.set_slice_whole, View.set_slice_whole]
    have hne := back_ne c h hn
    have hv : (back j c).val ≠ (back n c).val := fun e => hne (Fin.ext e)
    refine Rect.unit_disjoint (0 : Fin 2) ?_
    show 128 * (back j c).val + 128 ≤ 128 * (back n c).val ∨ 128 * (back n c).val + 128 ≤ 128 * (back j c).val
    omega
  · exact View.read_write_univ _ _

/-- The staged operands, and the output with its first `n` blocks in place. -/
def Out (c : Dev nD) (n : ℕ) : sProp 𝕄 :=
  iprop((((c : Thread nD τ).loc cc0_stg0_0) ↦{fullShare} xstg m ρ c) ∗ (((c : Thread nD τ).loc cc0_stg1_0) ↦{fullShare} wstg m ρ c)
    ∗ ∃ g : Buf (Elt F) ((c : Thread nD τ).loc cc0_stg2_0), ⌜Good m ρ c n g⌝ ∗ (((c : Thread nD τ).loc cc0_stg2_0) ↦{fullShare} g))

/-! ## The ring's state -/

variable (K : Dev nD × Fin 6 → ℕ)

/-- The levels. -/
@[irreducible] def levs : sProp 𝕄 := levAts Lv SiteBlocks.lv

omit [FloatOps F] in
theorem levAts_persistent (L : GSem nD τ sig → Finset ℕ) (lv : GSem nD τ sig → ℕ → ℕ) : BI.Persistent (levAts L lv : sProp 𝕄) := inferInstance
omit [FloatOps F] in
instance levs_persistent : BI.Persistent (levs : sProp 𝕄) := by unfold levs; exact levAts_persistent _ _
omit [FloatOps F] in
theorem levs_due (c : Dev nD) (sm : SemLoc sig) {i hr hc : ℕ} (hi : i < 3 * hr + 3) (hi' : i < 3 * hc + 4) (hb : i < 128) :
    (levs : sProp 𝕄) ⊢ MayWait (c : Thread nD τ) sm i (due c hr hc) := by
  unfold levs; exact mayWait_due c sm hi hi' hb

/-- The cells' invariants. -/
def invs : sProp 𝕄 := bigSep Finset.univ (fun ck => cellInv ER (Rd m ρ) (K ck) (kcell ck))
/-- Every cell has come to its first round. -/
def starts : sProp 𝕄 := bigSep Finset.univ (fun ck : Dev nD × Fin 6 => reached ER (kcell ck) 0)

omit [FloatOps F] in
instance invs_persistent : BI.Persistent (invs (F := F) m ρ K) := bigSep_persistent _ _
omit [FloatOps F] in
instance starts_persistent : BI.Persistent (starts (F := F)) := bigSep_persistent _ _

/-- What all devices share: the cells' invariants, that every cell is past no round at least, and the levels. -/
def env : sProp 𝕄 :=
  iprop(invs m ρ K ∗ starts ∗ levs)

instance env_persistent : BI.Persistent (env (F := F) m ρ K) := inferInstanceAs (BI.Persistent (iprop(invs (F := F) m ρ K ∗ starts ∗ levs)))

/-- The place of a send cell, and of a receive cell, among a device's six. -/
abbrev kS (s : Fin 2) : Fin 6 := ![2, 3] s
abbrev kV (s : Fin 2) : Fin 6 := ![4, 5] s

omit [FloatOps F] in
theorem env_inv (ck : Dev nD × Fin 6) : env (F := F) m ρ K ⊢ cellInv ER (Rd m ρ) (K ck) (kcell ck) := by
  unfold env; exact BI.sep_and.trans (BI.and_elimL.trans (bigSep_elim (Finset.mem_univ ck)))
omit [FloatOps F] in
theorem env_reached (ck : Dev nD × Fin 6) : env (F := F) m ρ K ⊢ reached ER (kcell ck) 0 := by
  unfold env; exact BI.sep_and.trans (BI.and_elimR.trans (BI.sep_and.trans (BI.and_elimL.trans (bigSep_elim (Finset.mem_univ ck)))))
omit [FloatOps F] in
theorem env_lev : env (F := F) m ρ K ⊢ levs (F := F) := by
  unfold env; iintro ⟨-, -, H⟩; iexact H

theorem kcell_send (c : Dev nD) (s : Fin 2) : kcell (c, kS s) = sendCell c s := by fin_cases s <;> rfl
theorem kcell_recv (c : Dev nD) (s : Fin 2) : kcell (c, kV s) = recvCell c s := by fin_cases s <;> rfl

omit [FloatOps F] in
theorem inv_send (c : Dev nD) (s : Fin 2) : env (F := F) m ρ K ⊢ cellInv ER (Rd m ρ) (K (c, kS s)) (sendCell c s) := by
  rw [← kcell_send]; exact env_inv m ρ K _
omit [FloatOps F] in
theorem inv_recv (c : Dev nD) (s : Fin 2) : env (F := F) m ρ K ⊢ cellInv ER (Rd m ρ) (K (c, kV s)) (recvCell c s) := by
  rw [← kcell_recv]; exact env_inv m ρ K _
omit [FloatOps F] in
theorem inv_cred (c : Dev nD) : env (F := F) m ρ K ⊢ cellInv ER (Rd m ρ) (K (c, 1)) (credCell c) := env_inv m ρ K (c, 1)
omit [FloatOps F] in
theorem inv_bar (c : Dev nD) : env (F := F) m ρ K ⊢ cellInv ER (Rd m ρ) (K (c, 0)) (barCell c) := env_inv m ρ K (c, 0)

/-- A cell at the start of its round `r`. -/
def pos (g : GSem nD τ sig) (r : ℕ) : sProp 𝕄 := iprop(atPos ER g r ∅ 0 ∗ reached ER g r)

/-- The tokens of the landings still to come at the right neighbour. -/
def RT (c : Dev nD) (h : ℕ) : sProp 𝕄 := bigSep (Finset.Ico h 31) fun j => dutyTok ER (recvCell (nxt c) (sl (j + 1))) (j / 2) false
/-- The tokens of the device's own sends still to come. -/
def ST (c : Dev nD) (h : ℕ) : sProp 𝕄 := bigSep (Finset.Ico h 31) fun j => dutyTok ER (sendCell c (sl j)) (j / 2) false
/-- What is promised of the blocks still to land here. -/
def RC (c : Dev nD) (h : ℕ) : sProp 𝕄 := bigSep (Finset.Ico h 31) fun j => cred (tallyAt (recvCell c (sl (j + 1))) (3 * j + 3) N)
/-- The tokens of the credits still to be given to the left neighbour. -/
def CT (c : Dev nD) (h : ℕ) : sProp 𝕄 := bigSep (Finset.Ico h 30) fun j => dutyTok ER (credCell (prv c)) j false
/-- What is promised of the credits still to be had from the right neighbour. -/
def CC (c : Dev nD) (h : ℕ) : sProp 𝕄 := bigSep (Finset.Ico h 30) fun j => cred (tallyAt (credCell c) (3 * j + 4) 1)

omit [FloatOps F] in
theorem pop {a b : ℕ} (h : a < b) (Φ : ℕ → sProp 𝕄) : bigSep (Finset.Ico a b) Φ = iprop(Φ a ∗ bigSep (Finset.Ico (a + 1) b) Φ) := by
  rw [ico_pop h]; exact bigSep_insert (ico_notMem a b)

/-- What a device owes. -/
def owing (c : Dev nD) (O : CellTallies nD τ sig ℕ) : sProp 𝕄 := iprop(∃ W, owes (c : Thread nD τ) O W)

/-- Before hop `h`. -/
def Pre (c : Dev nD) (h : ℕ) : sProp 𝕄 :=
  iprop(slot c (sl h) (xstg m ρ (back h c)) ∗ slotAny (nxt c) (sl (h + 1)) ∗ reached ER (recvCell (nxt c) (sl (h + 1))) (h / 2)
    ∗ pos (sendCell c (sl h)) (h / 2) ∗ pos (sendCell c (sl (h + 1))) ((h + 1) / 2)
    ∗ pos (recvCell c (sl (h + 1))) (h / 2) ∗ pos (recvCell c (sl h)) ((h + 1) / 2) ∗ pos (credCell c) h
    ∗ owing c (due c h h) ∗ RT c h ∗ ST c h ∗ RC c h ∗ CT c h ∗ CC c h)

/-- Between the send of hop `h` and its waits. -/
def Mid (c : Dev nD) (h : ℕ) : sProp 𝕄 :=
  iprop(cred (tallyAt (sendCell c (sl h)) 0 N)
    ∗ pos (sendCell c (sl h)) (h / 2) ∗ pos (sendCell c (sl (h + 1))) ((h + 1) / 2)
    ∗ pos (recvCell c (sl (h + 1))) (h / 2) ∗ pos (recvCell c (sl h)) ((h + 1) / 2) ∗ pos (credCell c) h
    ∗ owing c (due c (h + 1) h) ∗ RT c (h + 1) ∗ ST c (h + 1) ∗ RC c h ∗ CT c h ∗ CC c h)

/-- After the waits of hop `h`. -/
def Post (c : Dev nD) (h : ℕ) : sProp 𝕄 :=
  iprop(slot c (sl h) (xstg m ρ (back h c)) ∗ slot c (sl (h + 1)) (xstg m ρ (back (h + 1) c)) ∗ reached ER (credCell (prv c)) h
    ∗ pos (sendCell c (sl h)) ((h + 2) / 2) ∗ pos (sendCell c (sl (h + 1))) ((h + 1) / 2)
    ∗ pos (recvCell c (sl (h + 1))) ((h + 2) / 2) ∗ pos (recvCell c (sl h)) ((h + 1) / 2) ∗ pos (credCell c) h
    ∗ owing c (due c (h + 1) h) ∗ RT c (h + 1) ∗ ST c (h + 1) ∗ RC c (h + 1) ∗ CT c h ∗ CC c h)

/-! ## The send -/

/-- The send of hop `h`, addressed to `n = nxt c`. -/
theorem wp_send_hop (c n : Dev nD) (hn : n = nxt c) {h : ℕ} (hh : h < 31)
    {hsc : (slotM (sl (h + 1)) : Memref sig (Dev.tc n : Thread nD τ).2.kind .vmem S128x4096 .f32).view.ref.isScScratch = false}
    {hsrc : (slotM (sl h)).view.WordExact} {hdst : (slotM (sl (h + 1))).view.WordExact}
    {hsem : DmaTarget.Typed .vmem (.dma (recvS (sl (h + 1))).sem)
      (.remote (Dev.tc n : Thread nD τ) (slotM (sl (h + 1)) : Memref sig .tc .vmem S128x4096 .f32) (.dma (sendS (sl h)).sem) hsc)}
    {α : Type} {Q : α → sProp 𝕄} {k : PUnit → Prog (TpuEff nD τ sig (Elt F) Λ₀ .tc) α}
    (fs : Buf (Elt F) ((slotM (sl h)).view.loc (c : Thread nD τ))) (hfs : (slotM (sl h)).view.read (Elt F) fs = xstg m ρ (back h c))
    (fd : Buf (Elt F) ((slotM (sl (h + 1))).view.loc (nxt c : Thread nD τ))) (hc : ℕ) (W : Waits sig ℕ) :
    iprop(cellInv ER (Rd m ρ) (K (c, kS (sl h))) (sendCell c (sl h)) ∗ cellInv ER (Rd m ρ) (K (nxt c, kV (sl (h + 1)))) (recvCell (nxt c) (sl (h + 1)))
        ∗ ((slotM (sl h)).view.loc (c : Thread nD τ) ↦[(slotM (sl h)).view.set]{fullShare} fs)
        ∗ (((slotM (sl (h + 1))).view.loc (nxt c : Thread nD τ) ↦[(slotM (sl (h + 1))).view.set]{fullShare} fd) ∗ reached ER (credCell c) h)
        ∗ owes (c : Thread nD τ) (due c h hc) W
        ∗ dutyTok ER (sendCell c (sl h)) (h / 2) false ∗ reached ER (sendCell c (sl h)) (h / 2)
        ∗ dutyTok ER (recvCell (nxt c) (sl (h + 1))) (h / 2) false ∗ reached ER (recvCell (nxt c) (sl (h + 1))) (h / 2))
      ⊢ iprop(((cred (tallyAt (sendCell c (sl h)) 0 N) ∗ owes (c : Thread nD τ) (due c (h + 1) hc) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (sl h)) (.remote (Dev.tc n : Thread nD τ) (slotM (sl (h + 1))) (.dma (sendS (sl h)).sem) hsc)
                (.dma (recvS (sl (h + 1))).sem) hsrc hdst hsem) k) Q) := by
  subst hn
  exact Rounds.wp_send_pointsTo_with 𝒱₀ ER (Rd m ρ) (c : Thread nD τ) none
    (r₁ := h / 2) (r₂ := h / 2) (d₁ := false) (d₂ := false) (fd := fd)
    (by rw [duties_send m ρ c hh]; exact Finset.mem_singleton_self _) (by rw [duties_recv m ρ (nxt c) hh]; exact Finset.mem_singleton_self _)
    (3 * h + 3) 0 N rfl (amount_send m ρ c false _ _) (amount_recv m ρ (nxt c) false _ _) (due c (h + 1) hc) (due_send c hc hh) (W := W)
    (by
      rw [payload_send]; unfold sendPay slot owns
      iintro H; iexists fs; isplitr; · (ipureintro; exact hfs)
      iexact H)
    (by
      rw [payload_recv]; unfold recvPay slot owns; rw [back_nxt, prv_nxt, hfs]
      iintro ⟨H, Hr⟩
      isplitl [H]
      · iexists (slotM (sl (h + 1))).view.write (Elt F) fd (xstg m ρ (back h c)) Finset.univ
        isplitr; · (ipureintro; exact View.read_write_univ _ _)
        iexact H
      · iexact Hr)

theorem step_send (c dr : Dev nD) (hr : dr = nxt c) {h : ℕ} (hh : h < 31) :
    iprop(env m ρ K ∗ Pre m ρ c h)
      ⊢ wp frame (wpE (defs₀ (F := F)) 𝒱₀ (c : Thread nD τ) none) Set.univ (progSend (F := F) (sl h) (sl (h + 1)) dr) (fun _ => Mid c h) := by
  unfold progSend
  simp only [Prog.lift, Prog.bind_op, Prog.bind_ret, Prog.pure_eq_ret]
  unfold Pre slotAny slot owns owing
  rw [show RT (F := F) c h = iprop(dutyTok ER (recvCell (nxt c) (sl (h + 1))) (h / 2) false ∗ RT c (h + 1)) from pop hh _,
    show ST (F := F) c h = iprop(dutyTok ER (sendCell c (sl h)) (h / 2) false ∗ ST c (h + 1)) from pop hh _]
  unfold pos
  iintro ⟨#HE, ⟨%fs, %hfs, Hs⟩, ⟨%Y, %fd, %hfd, Hd⟩, #HrN, ⟨Ha1, #Hr1⟩, ⟨Ha2, #Hr2⟩, ⟨Ha3, #Hr3⟩, ⟨Ha4, #Hr4⟩, ⟨Ha5, #Hr5⟩, ⟨%W, HO⟩, ⟨HtV, HRT⟩, ⟨HtS, HST⟩, HRC, HCT, HCC⟩
  iapply (wp_send_hop m ρ K c dr hr hh fs hfs fd h W) $$ [Hs Hd HO HtS HtV]
  · isplitr; · iapply (inv_send m ρ K c (sl h)); iexact HE
    isplitr; · iapply (inv_recv m ρ K (nxt c) (sl (h + 1))); iexact HE
    isplitl [Hs]; · iexact Hs
    isplitl [Hd]
    · isplitl [Hd]; · iexact Hd
      iexact Hr5
    isplitl [HO]; · iexact HO
    isplitl [HtS]; · iexact HtS
    isplitr; · iexact Hr1
    isplitl [HtV]; · iexact HtV
    iexact HrN
  iintro ⟨Hc, HO⟩
  rw [wp_ret]; imodintro
  unfold Mid owing pos
  isplitl [Hc]; · iexact Hc
  isplitl [Ha1]; · isplitl [Ha1]; · iexact Ha1
                   iexact Hr1
  isplitl [Ha2]; · isplitl [Ha2]; · iexact Ha2
                   iexact Hr2
  isplitl [Ha3]; · isplitl [Ha3]; · iexact Ha3
                   iexact Hr3
  isplitl [Ha4]; · isplitl [Ha4]; · iexact Ha4
                   iexact Hr4
  isplitl [Ha5]; · isplitl [Ha5]; · iexact Ha5
                   iexact Hr5
  isplitl [HO]; · iexists W; iexact HO
  isplitl [HRT]; · iexact HRT
  isplitl [HST]; · iexact HST
  isplitl [HRC]; · iexact HRC
  isplitl [HCT] <;> iassumption

/-! ## The waits -/

theorem step_wait (c : Dev nD) {h : ℕ} (hh : h < 31) :
    iprop(env m ρ K ∗ Mid c h)
      ⊢ wp frame (wpE (defs₀ (F := F)) 𝒱₀ (c : Thread nD τ) none) Set.univ (progWait (F := F) (sl h) (sl (h + 1))) (fun _ => Post m ρ c h) := by
  unfold progWait
  simp only [Prog.lift, Prog.bind_op, Prog.bind_ret, Prog.pure_eq_ret]
  unfold Mid owing
  rw [show RC (F := F) c h = iprop(cred (tallyAt (recvCell c (sl (h + 1))) (3 * h + 3) N) ∗ RC c (h + 1)) from pop hh _]
  iintro ⟨#HE, Hc, Hp1, Hp2, Hp3, Hp4, Hp5, ⟨%W, HO⟩, HRT, HST, ⟨HcV, HRC⟩, HCT, HCC⟩
  unfold pos
  icases Hp1 with ⟨Ha1, -⟩
  icases Hp3 with ⟨Ha3, -⟩
  iapply (Rounds.wp_wait_rest_token 𝒱₀ ER (Rd m ρ) (c : Thread nD τ) none (κ := K (c, kS (sl h)))
      (wpE_waitDma2_eq 𝒱₀ (c : Thread nD τ) none Set.univ) (Set.mem_univ _) 0 (O := due c (h + 1) h) (W := W) (R := h / 2) (m := 0) (T := ∅)
      (by rw [Nat.zero_add, expect_send m ρ c hh])) $$ [Hc HO Ha1]
  · isplitr; · iapply (inv_send m ρ K c (sl h)); iexact HE
    isplitl [Hc]; · iexact Hc
    isplitl [HO]; · iexact HO
    isplitr; · iapply (levs_due c (sendL (sl h)) (by omega) (by omega) (by omega)); iapply (env_lev m ρ K); iexact HE
    iexact Ha1
  iintro ⟨HO, Ha1, Hr1, Hpay⟩
  ihave Hs := (Entails.of_eq (rest_send m ρ c hh)) $$ Hpay
  iapply (Rounds.wp_wait_rest_token 𝒱₀ ER (Rd m ρ) (c : Thread nD τ) none (κ := K (c, kV (sl (h + 1))))
      (wpE_waitDma2_eq 𝒱₀ (c : Thread nD τ) none Set.univ) (Set.mem_univ _) (3 * h + 3) (O := due c (h + 1) h)
      (W := insert (sendL (sl h), 0) W) (R := h / 2) (m := 0) (T := ∅)
      (by rw [Nat.zero_add, expect_recv m ρ c hh])) $$ [HcV HO Ha3]
  · isplitr; · iapply (inv_recv m ρ K c (sl (h + 1))); iexact HE
    isplitl [HcV]; · iexact HcV
    isplitl [HO]; · iexact HO
    isplitr; · iapply (levs_due c (recvL (sl (h + 1))) (by omega) (by omega) (by omega)); iapply (env_lev m ρ K); iexact HE
    iexact Ha3
  iintro ⟨HO, Ha3, Hr3, Hpay⟩
  ihave Hv := (Entails.of_eq (rest_recv m ρ c hh)) $$ Hpay
  unfold recvPay sendPay
  icases Hv with ⟨Hv, #Hrc⟩
  rw [wp_ret]; imodintro
  unfold Post owing pos
  rw [show (h + 2) / 2 = h / 2 + 1 by omega]
  isplitl [Hs]; · iexact Hs
  isplitl [Hv]; · iexact Hv
  isplitr; · iexact Hrc
  isplitl [Ha1 Hr1]; · isplitl [Ha1] <;> iassumption
  isplitl [Hp2]; · iexact Hp2
  isplitl [Ha3 Hr3]; · isplitl [Ha3] <;> iassumption
  isplitl [Hp4]; · iexact Hp4
  isplitl [Hp5]; · iexact Hp5
  isplitl [HO]; · iexists _; iexact HO
  isplitl [HRT]; · iexact HRT
  isplitl [HST]; · iexact HST
  isplitl [HRC]; · iexact HRC
  isplitl [HCT] <;> iassumption

/-! ## The exchange of credits -/

theorem step_sig (c dl : Dev nD) (hl : dl = prv c) {h : ℕ} (hh : h < 30) :
    iprop(env m ρ K ∗ Post m ρ c h)
      ⊢ wp frame (wpE (defs₀ (F := F)) 𝒱₀ (c : Thread nD τ) none) Set.univ (progSig (F := F) dl) (fun _ => Pre m ρ c (h + 1)) := by
  subst hl
  unfold progSig
  simp only [semSignalWord, semWaitWord, Prog.lift, Prog.bind_op, Prog.bind_ret, Prog.pure_eq_ret]
  unfold Post owing
  rw [show CT (F := F) c h = iprop(dutyTok ER (credCell (prv c)) h false ∗ CT c (h + 1)) from pop hh _,
    show CC (F := F) c h = iprop(cred (tallyAt (credCell c) (3 * h + 4) 1) ∗ CC c (h + 1)) from pop hh _]
  iintro ⟨#HE, Hs, Hv, #Hrc, Hp1, Hp2, Hp3, Hp4, Hp5, ⟨%W, HO⟩, HRT, HST, HRC, ⟨HtC, HCT⟩, ⟨HcC, HCC⟩⟩
  unfold pos
  icases Hp4 with ⟨Ha4, #Hr4⟩
  icases Hp5 with ⟨Ha5, -⟩
  iapply (Rounds.wp_signal 𝒱₀ ER (Rd m ρ) (c : Thread nD τ) none (dst := (prv c : Thread nD τ)) (κ := K (prv c, 1))
      (d := false) (by rw [duties_cred m ρ (prv c) hh]; exact Finset.mem_singleton_self _) ((amount_cred m ρ (prv c) false h).trans (by decide)) (3 * h + 4)
      (due c (h + 1) (h + 1)) (due_cred c (h + 1) hh)) $$ [HO HtC Hs]
  · isplitr; · iapply (inv_cred m ρ K (prv c)); iexact HE
    isplitl [HO]; · iexact HO
    isplitl [HtC]; · iexact HtC
    isplitl [Hs]
    · rw [payload_cred]; unfold credPay slotAny; rw [nxt_prv]
      isplitl [Hs]; · iexists _; iexact Hs
      iexact Hr4
    · iexact Hrc
  iintro HO
  iapply (Rounds.wp_wait_rest_token 𝒱₀ ER (Rd m ρ) (c : Thread nD τ) none (κ := K (c, 1))
      (wpE_semWait_eq 𝒱₀ (c : Thread nD τ) none Set.univ) (Set.mem_univ _) (3 * h + 4) (O := due c (h + 1) (h + 1)) (W := W) (R := h) (m := 0) (T := ∅)
      (by rw [Nat.zero_add, expect_cred m ρ c hh]; decide)) $$ [HcC HO Ha5]
  · isplitr; · iapply (inv_cred m ρ K c); iexact HE
    isplitl [HcC]; · iexact HcC
    isplitl [HO]; · iexact HO
    isplitr; · iapply (levs_due c credL (by omega) (by omega) (by omega)); iapply (env_lev m ρ K); iexact HE
    iexact Ha5
  iintro ⟨HO, Ha5, Hr5, Hpay⟩
  ihave Hn := (Entails.of_eq (rest_cred m ρ c hh)) $$ Hpay
  unfold credPay
  icases Hn with ⟨Hn, HrN⟩
  rw [wp_ret]; imodintro
  unfold Pre owing pos
  rw [show h + 1 + 1 = h + 2 from rfl, sl_add_two]
  isplitl [Hv]; · iexact Hv
  isplitl [Hn]; · iexact Hn
  isplitl [HrN]; · iexact HrN
  isplitl [Hp2]; · iexact Hp2
  isplitl [Hp1]; · iexact Hp1
  isplitl [Ha4]; · isplitl [Ha4]; · iexact Ha4
                   iexact Hr4
  isplitl [Hp3]; · iexact Hp3
  isplitl [Ha5 Hr5]; · isplitl [Ha5] <;> iassumption
  isplitl [HO]; · iexists _; iexact HO
  isplitl [HRT]; · iexact HRT
  isplitl [HST]; · iexact HST
  isplitl [HRC]; · iexact HRC
  isplitl [HCT] <;> iassumption

/-! ## The products -/

theorem hz2 : (![0, 0] : Fin 2 → Nat) = fun _ => 0 := funext fun a => by fin_cases a <;> rfl

theorem load_slot (s : Fin 2) : cM.view.setOn (slotR s).toLoadRect.set ⊆ (slotM s).view.set := by
  rw [slot_set]
  exact subset_of_eq Finset.map_refl

/-- The product of the block in slot `s`. -/
theorem step_mul (c : Dev nD) (s : Fin 2) {n : ℕ} (hn : n < 32) (off : Fin 2 → ℕ) (inb : ∀ a, off a + S128x64.size a ≤ S4096x64.size a)
    (hoff : off = ![128 * (back n c).val, 0]) :
    iprop(slot c s (xstg m ρ (back n c)) ∗ Out m ρ c n)
      ⊢ wp frame (wpE (defs₀ (F := F)) 𝒱₀ (c : Thread nD τ) none) Set.univ (progMul (F := F) s off inb)
          (fun _ => iprop(slot c s (xstg m ρ (back n c)) ∗ Out m ρ c (n + 1))) := by
  subst hoff
  unfold progMul
  simp only [Prog.lift, Prog.bind_op, Prog.bind_ret, Prog.pure_eq_ret]
  unfold slot owns Out
  iintro ⟨⟨%f, %hf, Hs⟩, Hx, Hw, ⟨%g, %hg, Ho⟩⟩
  iapply (wp_load 𝒱₀ (c : Thread nD τ) none Set.univ (m := cM) (r := (slotR s).toLoadRect) (S := (slotM s).view.set) (load_slot s)) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S4096x64) _ S128x64.size inb) (Mk := Finset.univ) (Finset.subset_univ _)) $$ Ho; iintro Ho
  rw [wp_ret]; imodintro
  rw [pay4_eq (cM.view.readAt (Elt F) (slotR s).toLoadRect f) (xstg m ρ (back n c)) _ hf, show wM.view.readAt (Elt F) (Rect.unit (s := S4096x64) ![0, 0] S4096x64.size inb_S4096x64_S4096x64_0_0).toLoadRect (wstg m ρ c) = wstg m ρ c
    from Memref.readAt_unit_zero (Elt F) cc0_stg1_0 hz2 _ _]
  isplitl [Hs]
  · iexists f; isplitr; · (ipureintro; exact hf)
    iexact Hs
  isplitl [Hx]; · iexact Hx
  isplitl [Hw]; · iexact Hw
  iexists _; isplitr; · (ipureintro; exact good_step m ρ c hn g hg)
  iexact Ho

/-- The product of the device's own block. -/
theorem step_own (c : Dev nD) (off : Fin 2 → ℕ) (inb : ∀ a, off a + S128x64.size a ≤ S4096x64.size a) (hoff : off = ![128 * (back 0 c).val, 0]) :
    Out m ρ c 0
      ⊢ wp frame (wpE (defs₀ (F := F)) 𝒱₀ (c : Thread nD τ) none) Set.univ (progOwn (F := F) off inb) (fun _ => Out m ρ c 1) := by
  subst hoff
  unfold progOwn
  simp only [Prog.lift, Prog.bind_op, Prog.bind_ret, Prog.pure_eq_ret]
  unfold Out
  iintro ⟨Hx, Hw, ⟨%g, %hg, Ho⟩⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S4096x64) _ S128x64.size inb) (Mk := Finset.univ) (Finset.subset_univ _)) $$ Ho; iintro Ho
  rw [wp_ret]; imodintro
  rw [pay3_eq, show wM.view.readAt (Elt F) (Rect.unit (s := S4096x64) ![0, 0] S4096x64.size inb_S4096x64_S4096x64_0_0).toLoadRect (wstg m ρ c) = wstg m ρ c
    from Memref.readAt_unit_zero (Elt F) cc0_stg1_0 hz2 _ _,
    show xM.view.readAt (Elt F) (Rect.unit (s := S128x4096) ![0, 0] S128x4096.size inb_S128x4096_S128x4096_0_0).toLoadRect (xstg m ρ c) = xstg m ρ (back 0 c)
    from (Memref.readAt_unit_zero (Elt F) cc0_stg0_0 hz2 _ _).trans (by rw [back_zero])]
  isplitl [Hx]; · iexact Hx
  isplitl [Hw]; · iexact Hw
  iexists _; isplitr; · (ipureintro; exact good_step m ρ c (by decide) g hg)
  iexact Ho

end Cert.RingGemm

end
-- ==== Proof.Begin.lean ====
/-
# The whole kernel on one device

The start, the printed parts in a row, and the end: every cell closed, and every row block of the output a product.
-/
module

public import proofs.«01_k».proof.Proof.Steps

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 6 → ℕ)

/-! ## Rows of pieces -/

theorem wp_seq {c : Dev nD} {α β : Type} {p : KProg F α} {k : α → KProg F β} {P : sProp 𝕄} {R : α → sProp 𝕄} {Q : β → sProp 𝕄}
    (h : P ⊢ wp frame (wpE (defs₀ (F := F)) 𝒱₀ (c : Thread nD τ) none) Set.univ p R)
    (h' : ∀ a, R a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact h.trans (wp_mono _ _ _ h')

theorem wp_done {c : Dev nD} {α : Type} (a : α) (Q : α → sProp 𝕄) :
    Q a ⊢ wp frame (wpE (defs₀ (F := F)) 𝒱₀ (c : Thread nD τ) none) Set.univ (pure a : KProg F α) Q := by
  show Q a ⊢ wp _ _ _ (Prog.ret a) Q
  rw [wp_ret]; exact fupd_intro

/-- A piece beside what it leaves alone. -/
theorem lift {c : Dev nD} {α : Type} {p : KProg F α} {P Q R : sProp 𝕄}
    (h : iprop(env m ρ K ∗ P) ⊢ wp frame (wpE (defs₀ (F := F)) 𝒱₀ (c : Thread nD τ) none) Set.univ p (fun _ => Q)) :
    iprop(env m ρ K ∗ P ∗ R) ⊢ wp frame (wpE (defs₀ (F := F)) 𝒱₀ (c : Thread nD τ) none) Set.univ p (fun _ => iprop(env m ρ K ∗ Q ∗ R)) := by
  iintro ⟨#HE, HP, HR⟩
  iapply wp_wand $$ [HP]
  · iapply h; isplitr; · iexact HE
    iexact HP
  iintro %a HQ
  isplitr; · iexact HE
  isplitl [HQ] <;> iassumption

/-- What a device carries through the hops: the barrier's cell at its end, and `n` row blocks done. -/
def Side (c : Dev nD) (n : ℕ) : sProp 𝕄 := iprop(atPos ER (barCell c) 1 ∅ 0 ∗ Out m ρ c n)

abbrev SPre (c : Dev nD) (h n : ℕ) : sProp 𝕄 := iprop(env m ρ K ∗ Pre m ρ c h ∗ Side m ρ c n)
abbrev SMid (c : Dev nD) (h n : ℕ) : sProp 𝕄 := iprop(env m ρ K ∗ Mid c h ∗ Side m ρ c n)
abbrev SPost (c : Dev nD) (h n : ℕ) : sProp 𝕄 := iprop(env m ρ K ∗ Post m ρ c h ∗ Side m ρ c n)

theorem mul_post (c : Dev nD) {h : ℕ} (hh : h < 31) (off : Fin 2 → ℕ) (inb : ∀ a, off a + S128x64.size a ≤ S4096x64.size a)
    (hoff : off = ![128 * (back (h + 1) c).val, 0]) :
    SPost m ρ K c h (h + 1)
      ⊢ wp frame (wpE (defs₀ (F := F)) 𝒱₀ (c : Thread nD τ) none) Set.univ (progMul (F := F) (sl (h + 1)) off inb) (fun _ => SPost m ρ K c h (h + 2)) := by
  unfold SPost Post Side
  iintro ⟨#HE, ⟨Hs, Hv, Hrest⟩, HB, HO⟩
  iapply wp_wand $$ [Hv HO]
  · iapply (step_mul m ρ c (sl (h + 1)) (by omega : h + 1 < 32) off inb hoff); isplitl [Hv] <;> iassumption
  iintro %a ⟨Hv, HO⟩
  isplitr; · iexact HE
  isplitl [Hs Hv Hrest]
  · isplitl [Hs]; · iexact Hs
    isplitl [Hv] <;> iassumption
  isplitl [HB] <;> iassumption

theorem own_mid (c : Dev nD) (h : ℕ) (off : Fin 2 → ℕ) (inb : ∀ a, off a + S128x64.size a ≤ S4096x64.size a) (hoff : off = ![128 * (back 0 c).val, 0]) :
    SMid m ρ K c h 0
      ⊢ wp frame (wpE (defs₀ (F := F)) 𝒱₀ (c : Thread nD τ) none) Set.univ (progOwn (F := F) off inb) (fun _ => SMid m ρ K c h 1) := by
  unfold SMid Side
  iintro ⟨#HE, HM, HB, HO⟩
  iapply wp_wand $$ [HO]
  · iapply (step_own m ρ c off inb hoff); iexact HO
  iintro %a HO
  isplitr; · iexact HE
  isplitl [HM]; · iexact HM
  isplitl [HB] <;> iassumption

theorem tri_mul_sig_send (c dl dr : Dev nD) (hl : dl = prv c) (hr : dr = nxt c) {h : ℕ} (hh : h < 30) (off : Fin 2 → ℕ)
    (inb : ∀ a, off a + S128x64.size a ≤ S4096x64.size a) (hoff : off = ![128 * (back (h + 1) c).val, 0]) :
    SPost m ρ K c h (h + 1)
      ⊢ wp frame (wpE (defs₀ (F := F)) 𝒱₀ (c : Thread nD τ) none) Set.univ
          (progMul (F := F) (sl (h + 1)) off inb >>= fun _ => progSig dl >>= fun _ => progSend (sl (h + 1)) (sl (h + 2)) dr)
          (fun _ => SMid m ρ K c (h + 1) (h + 2)) :=
  wp_seq (mul_post m ρ K c (by omega) off inb hoff) fun _ =>
    wp_seq (lift m ρ K (step_sig m ρ K c dl hl hh)) fun _ => lift m ρ K (step_send m ρ K c dr hr (by omega))

theorem tri_wait_mul_sig (c dl : Dev nD) (hl : dl = prv c) {h : ℕ} (hh : h < 30) (off : Fin 2 → ℕ)
    (inb : ∀ a, off a + S128x64.size a ≤ S4096x64.size a) (hoff : off = ![128 * (back (h + 1) c).val, 0]) :
    SMid m ρ K c h (h + 1)
      ⊢ wp frame (wpE (defs₀ (F := F)) 𝒱₀ (c : Thread nD τ) none) Set.univ
          (progWait (F := F) (sl h) (sl (h + 1)) >>= fun _ => progMul (sl (h + 1)) off inb >>= fun _ => progSig dl)
          (fun _ => SPre m ρ K c (h + 1) (h + 2)) :=
  wp_seq (lift m ρ K (step_wait m ρ K c (by omega))) fun _ =>
    wp_seq (mul_post m ρ K c (by omega) off inb hoff) fun _ => lift m ρ K (step_sig m ρ K c dl hl hh)

theorem tri_send_wait (c dr : Dev nD) (hr : dr = nxt c) {h n : ℕ} (hh : h < 31) {α : Type} (a : α) :
    SPre m ρ K c h n
      ⊢ wp frame (wpE (defs₀ (F := F)) 𝒱₀ (c : Thread nD τ) none) Set.univ
          (progSend (F := F) (sl h) (sl (h + 1)) dr >>= fun _ => progWait (sl h) (sl (h + 1)) >>= fun _ => pure a)
          (fun _ => SPost m ρ K c h n) :=
  wp_seq (lift m ρ K (step_send m ρ K c dr hr hh)) fun _ =>
    wp_seq (lift m ρ K (step_wait m ρ K c hh)) fun _ => wp_done a (fun _ => SPost m ρ K c h n)

theorem tri_send_own_wait (c dr : Dev nD) (hr : dr = nxt c) (off : Fin 2 → ℕ)
    (inb : ∀ a, off a + S128x64.size a ≤ S4096x64.size a) (hoff : off = ![128 * (back 0 c).val, 0]) {α : Type} (a : α) :
    SPre m ρ K c 0 0
      ⊢ wp frame (wpE (defs₀ (F := F)) 𝒱₀ (c : Thread nD τ) none) Set.univ
          (progSend (F := F) (sl 0) (sl 1) dr >>= fun _ => progOwn off inb >>= fun _ => progWait (sl 0) (sl 1) >>= fun _ => pure a)
          (fun _ => SPost m ρ K c 0 1) :=
  wp_seq (lift m ρ K (step_send m ρ K c dr hr (by decide : 0 < 31))) fun _ =>
    wp_seq (own_mid m ρ K c 0 off inb hoff) fun _ =>
      wp_seq (lift m ρ K (step_wait m ρ K c (by decide : 0 < 31))) fun _ => wp_done a (fun _ => SPost m ρ K c 0 1)

/-! ## The start -/

/-- What a device starts with, the two tensors and the output aside. -/
def Begin (c : Dev nD) : sProp 𝕄 :=
  iprop(atPos ER (barCell c) 0 ∅ 0 ∗ dutyTok ER (barCell (prv c)) 0 true ∗ dutyTok ER (barCell (nxt c)) 0 false
    ∗ cred (tallyAt (barCell c) 1 2)
    ∗ atPos ER (sendCell c (sl 0)) 0 ∅ 0 ∗ atPos ER (sendCell c (sl (0 + 1))) 0 ∅ 0
    ∗ atPos ER (recvCell c (sl (0 + 1))) 0 ∅ 0 ∗ atPos ER (recvCell c (sl 0)) 0 ∅ 0 ∗ atPos ER (credCell c) 0 ∅ 0
    ∗ owing c (O₀ c) ∗ RT c 0 ∗ ST c 0 ∗ RC c 0 ∗ CT c 0 ∗ CC c 0)

omit [FloatOps F] in
theorem reached_send (c : Dev nD) (s : Fin 2) : env (F := F) m ρ K ⊢ reached ER (sendCell c s) 0 := by
  rw [← kcell_send]; exact env_reached m ρ K _
omit [FloatOps F] in
theorem reached_recv (c : Dev nD) (s : Fin 2) : env (F := F) m ρ K ⊢ reached ER (recvCell c s) 0 := by
  rw [← kcell_recv]; exact env_reached m ρ K _
omit [FloatOps F] in
theorem reached_cred (c : Dev nD) : env (F := F) m ρ K ⊢ reached ER (credCell c) 0 := env_reached m ρ K (c, 1)
omit [FloatOps F] in
theorem reached_bar (c : Dev nD) : env (F := F) m ρ K ⊢ reached ER (barCell c) 0 := env_reached m ρ K (c, 0)

theorem split_slots (c : Dev nD) :
    iprop(∃ f, ((c : Thread nD τ).loc cc0_scratch0) ↦{fullShare} f) ⊢ iprop(slotAny (F := F) c (sl 0) ∗ slotAny c (sl (0 + 1))) := scratch_split c

theorem pay2_eq (v : Vec F S128x4096 .f32) : k0_pay2 v = shapeCast S1x128x4096 (shapeCast S128x4096 v shapeCasts_S128x4096_S128x4096) shapeCasts_S128x4096_S1x128x4096 := by
  unfold k0_pay2; rfl

theorem store_slot (s : Fin 2) : (cM.access (slotR s)).setOn Finset.univ ⊆ (slotM s).view.set := by
  rw [slot_set]; exact subset_of_eq (View.set_slice_whole _ _)

omit [FloatOps F] in
theorem bar_slot (c : Dev nD) : barPay (F := F) c ⊢ iprop(∃ X, ∃ f, ⌜(slotM (sl (0 + 1))).view.read (Elt F) f = X⌝
    ∗ ((slotM (sl (0 + 1))).view.loc (nxt c : Thread nD τ) ↦[(slotM (sl (0 + 1))).view.set]{fullShare} f)) := by
  unfold barPay slotAny slot owns; exact Entails.of_eq rfl

theorem step_start (c dl dr : Dev nD) (hl : dl = prv c) (hr : dr = nxt c) :
    iprop(env m ρ K ∗ Begin c ∗ (∃ f, ((c : Thread nD τ).loc cc0_scratch0) ↦{fullShare} f) ∗ Out m ρ c 0)
      ⊢ wp frame (wpE (defs₀ (F := F)) 𝒱₀ (c : Thread nD τ) none) Set.univ (progStart (F := F) dl dr) (fun _ => SPre m ρ K c 0 0) := by
  subst hl hr
  unfold progStart
  simp only [semSignalWord, semWaitWord, Prog.lift, Prog.bind_op, Prog.bind_ret, Prog.pure_eq_ret]
  unfold Begin owing Out
  iintro ⟨#HE, ⟨Hab, HtL, HtR, Hcb, Ha1, Ha2, Ha3, Ha4, Ha5, ⟨%W, HO⟩, HRT, HST, HRC, HCT, HCC⟩, Hsc, Hx, Hw, Ho⟩
  ihave Hss := (split_slots (F := F) c) $$ Hsc
  icases Hss with ⟨Hs0, Hs1⟩
  iapply (Rounds.wp_signal 𝒱₀ ER (Rd m ρ) (c : Thread nD τ) none (dst := (prv c : Thread nD τ)) (κ := K (prv c, 0))
      (d := true) (by rw [duties_bar m ρ (prv c)]; exact Finset.mem_univ _) ((amount_bar m ρ (prv c) true 0).trans (by decide)) 1
      (O₁ c) rfl) $$ [HO HtL Hs1]
  · isplitr; · iapply (inv_bar m ρ K (prv c)); iexact HE
    isplitl [HO]; · iexact HO
    isplitl [HtL]; · iexact HtL
    isplitl [Hs1]
    · rw [payload_bar_true]; unfold barPay; rw [nxt_prv]; iexact Hs1
    · iapply (reached_bar m ρ K (prv c)); iexact HE
  iintro HO
  iapply (Rounds.wp_signal 𝒱₀ ER (Rd m ρ) (c : Thread nD τ) none (dst := (nxt c : Thread nD τ)) (κ := K (nxt c, 0))
      (d := false) (by rw [duties_bar m ρ (nxt c)]; exact Finset.mem_univ _) ((amount_bar m ρ (nxt c) false 0).trans (by decide)) 1
      (due c 0 0) rfl) $$ [HO HtR]
  · isplitr; · iapply (inv_bar m ρ K (nxt c)); iexact HE
    isplitl [HO]; · iexact HO
    isplitl [HtR]; · iexact HtR
    isplitr
    · rw [payload_bar_false]; iempintro
    · iapply (reached_bar m ρ K (nxt c)); iexact HE
  iintro HO
  iapply (Rounds.wp_wait_rest_token 𝒱₀ ER (Rd m ρ) (c : Thread nD τ) none (κ := K (c, 0))
      (wpE_semWait_eq 𝒱₀ (c : Thread nD τ) none Set.univ) (Set.mem_univ _) 1 (O := due c 0 0) (W := W) (R := 0) (m := 0) (T := ∅)
      (by rw [Nat.zero_add, expect_bar m ρ c]; decide)) $$ [Hcb HO Hab]
  · isplitr; · iapply (inv_bar m ρ K c); iexact HE
    isplitl [Hcb]; · iexact Hcb
    isplitl [HO]; · iexact HO
    isplitr; · iapply (levs_due c barL (by omega) (by omega) (by omega)); iapply (env_lev m ρ K); iexact HE
    iexact Hab
  iintro ⟨HO, Hab, -, Hpay⟩
  ihave Hn := (Entails.of_eq (rest_bar m ρ c)) $$ Hpay
  icases Hn with ⟨-, Hn⟩
  iapply (wp_load 𝒱₀ (c : Thread nD τ) none Set.univ (m := xM) (Finset.subset_univ _)) $$ Hx; iintro Hx
  unfold slotAny slot owns
  icases Hs0 with ⟨%X0, %f0, %hf0, Hs0⟩
  iapply (wp_load 𝒱₀ (c : Thread nD τ) none Set.univ (m := cM) (r := (slotR (sl 0)).toLoadRect) (S := (slotM (sl 0)).view.set) (load_slot (sl 0))) $$ Hs0; iintro Hs0
  iapply (wp_store 𝒱₀ (c : Thread nD τ) none Set.univ (m := cM) (r := slotR (sl 0)) (Mk := Finset.univ) (S := (slotM (sl 0)).view.set) (store_slot (sl 0))) $$ Hs0; iintro Hs0
  rw [wp_ret]; imodintro
  rw [show xM.view.readAt (Elt F) (Rect.unit (s := S128x4096) ![0, 0] S128x4096.size inb_S128x4096_S128x4096_0_0).toLoadRect (xstg m ρ c) = xstg m ρ c
    from Memref.readAt_unit_zero (Elt F) cc0_stg0_0 hz2 _ _]
  isplitr; · iexact HE
  unfold Side Out
  isplitr [Hab Hx Hw Ho]
  · unfold Pre pos owing slotAny slot owns
    isplitl [Hs0]
    · iexists _; isplitr
      rotate_left
      · iexact Hs0
      ipureintro
      rw [back_zero, pay2_eq]
      show shapeCast S128x4096 ((cM.access (slotR (sl 0))).read (Elt F) ((cM.access (slotR (sl 0))).write (Elt F) f0 (shapeCast S1x128x4096 (shapeCast S128x4096 (xstg m ρ c) shapeCasts_S128x4096_S128x4096) shapeCasts_S128x4096_S1x128x4096) Finset.univ)) shapeCasts_S1x128x4096_S128x4096 = _
      rw [View.read_write_univ]; exact (shapeCast_shapeCast _ _ _).trans (shapeCast_self _ _)
    isplitl [Hn]; · iapply (bar_slot (F := F) c); iexact Hn
    isplitr; · iapply (reached_recv m ρ K (nxt c)); iexact HE
    isplitl [Ha1]; · isplitl [Ha1]; · iexact Ha1
                     iapply (reached_send m ρ K c); iexact HE
    isplitl [Ha2]; · isplitl [Ha2]; · iexact Ha2
                     iapply (reached_send m ρ K c); iexact HE
    isplitl [Ha3]; · isplitl [Ha3]; · iexact Ha3
                     iapply (reached_recv m ρ K c); iexact HE
    isplitl [Ha4]; · isplitl [Ha4]; · iexact Ha4
                     iapply (reached_recv m ρ K c); iexact HE
    isplitl [Ha5]; · isplitl [Ha5]; · iexact Ha5
                     iapply (reached_cred m ρ K c); iexact HE
    isplitl [HO]; · iexists _; iexact HO
    isplitl [HRT]; · iexact HRT
    isplitl [HST]; · iexact HST
    isplitl [HRC]; · iexact HRC
    isplitl [HCT] <;> iassumption
  · isplitl [Hab]; · iexact Hab
    isplitl [Hx]; · iexact Hx
    isplitl [Hw]; · iexact Hw
    iexact Ho

end Cert.RingGemm

end
-- ==== Proof.Body.lean ====
/-
# The whole kernel on one device

The printed parts in a row, and the end: every cell closed, and every row block of the output a product.
-/
module

public import proofs.«01_k».proof.Proof.Begin
public import Idealize.ShloMosaic.Lib.ValueIdxCore

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 6 → ℕ)

/-! ## Devices and rows as the program computes them -/

theorem off1_eq (c : Dev nD) : k0_off1 c = ![128 * (back 0 c).val, 0] := by rw [k0_off1_eq, back_zero]
theorem off2_eq (c : Dev nD) (r : Fin 31) : k0_off2 c (BitVec.ofNat 32 r.val) = ![128 * (back (r.val + 1) c).val, 0] := by
  rw [k0_off2_eq]
  have h : (c.val + 31 - r.val) % 32 = (back (r.val + 1) c).val := by
    have := lt32 c; have := r.isLt; show _ = (c.val + 31 * (r.val + 1)) % 32; omega
  first | rw [h] | (simp only [h])

/-! ## The printed parts -/

section Printed
variable (c : Dev nD) (v2 v5 v7 v51 c32 : BitVec 32)

theorem at2 : SPre m ρ K c 0 0
      ⊢ wp frame (wpE (defs₀ (F := F)) 𝒱₀ (c : Thread nD τ) none) Set.univ (k0_part2 (F := F) xM (Memref.isWhole_whole _) wM (Memref.isWhole_whole _) oM (Memref.isWhole_whole _) cM (Memref.isWhole_whole _) cc0_scratch1 cc0_scratch2 cc0_scratch3 c v2 v7) (fun _ => SPost m ρ K c 0 1) := by
  rw [part2_eq]; exact tri_send_own_wait m ρ K c _ (Fin.ext (k0_dev3_eq c)) _ _ (off1_eq c) _
theorem at3 : SPost m ρ K c 0 1
      ⊢ wp frame (wpE (defs₀ (F := F)) 𝒱₀ (c : Thread nD τ) none) Set.univ (k0_part3 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 1 2) := by
  rw [part3_eq]; exact tri_mul_sig_send m ρ K c _ _ (Fin.ext (k0_dev4_eq c)) (Fin.ext (k0_dev5_eq c)) (h := 0) (by decide) _ _ (off2_eq c (0 : Fin 31))
theorem at4 : SMid m ρ K c 1 2
      ⊢ wp frame (wpE (defs₀ (F := F)) 𝒱₀ (c : Thread nD τ) none) Set.univ (k0_part4 (F := F) xM (Memref.isWhole_whole _) wM (Memref.isWhole_whole _) oM (Memref.isWhole_whole _) cM (Memref.isWhole_whole _) cc0_scratch1 cc0_scratch2 cc0_scratch3 c v2 v5 v7) (fun _ => SPre m ρ K c 2 3) := by
  rw [part4_eq]; exact tri_wait_mul_sig m ρ K c _ (Fin.ext (k0_dev6_eq c)) (h := 1) (by decide) _ _ (off2_eq c (1 : Fin 31))
theorem at5 : SPre m ρ K c 2 3
      ⊢ wp frame (wpE (defs₀ (F := F)) 𝒱₀ (c : Thread nD τ) none) Set.univ (k0_part5 (F := F) xM (Memref.isWhole_whole _) wM (Memref.isWhole_whole _) oM (Memref.isWhole_whole _) cM (Memref.isWhole_whole _) cc0_scratch1 cc0_scratch2 cc0_scratch3 c v2 v7) (fun _ => SPost m ρ K c 2 3) := by
  rw [part5_eq]; exact tri_send_wait m ρ K c _ (Fin.ext (k0_dev7_eq c)) (h := 2) (by decide) _
theorem at6 : SPost m ρ K c 2 3
      ⊢ wp frame (wpE (defs₀ (F := F)) 𝒱₀ (c : Thread nD τ) none) Set.univ (k0_part6 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 3 4) := by
  rw [part6_eq]; exact tri_mul_sig_send m ρ K c _ _ (Fin.ext (k0_dev8_eq c)) (Fin.ext (k0_dev9_eq c)) (h := 2) (by decide) _ _ (off2_eq c (2 : Fin 31))
theorem at7 : SMid m ρ K c 3 4
      ⊢ wp frame (wpE (defs₀ (F := F)) 𝒱₀ (c : Thread nD τ) none) Set.univ (k0_part7 (F := F) xM (Memref.isWhole_whole _) wM (Memref.isWhole_whole _) oM (Memref.isWhole_whole _) cM (Memref.isWhole_whole _) cc0_scratch1 cc0_scratch2 cc0_scratch3 c v2 v5 v7) (fun _ => SPre m ρ K c 4 5) := by
  rw [part7_eq]; exact tri_wait_mul_sig m ρ K c _ (Fin.ext (k0_dev10_eq c)) (h := 3) (by decide) _ _ (off2_eq c (3 : Fin 31))
theorem at8 : SPre m ρ K c 4 5
      ⊢ wp frame (wpE (defs₀ (F := F)) 𝒱₀ (c : Thread nD τ) none) Set.univ (k0_part8 (F := F) xM (Memref.isWhole_whole _) wM (Memref.isWhole_whole _) oM (Memref.isWhole_whole _) cM (Memref.isWhole_whole _) cc0_scratch1 cc0_scratch2 cc0_scratch3 c v2 v7) (fun _ => SPost m ρ K c 4 5) := by
  rw [part8_eq]; exact tri_send_wait m ρ K c _ (Fin.ext (k0_dev11_eq c)) (h := 4) (by decide) _
theorem at9 : SPost m ρ K c 4 5
      ⊢ wp frame (wpE (defs₀ (F := F)) 𝒱₀ (c : Thread nD τ) none) Set.univ (k0_part9 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 5 6) := by
  rw [part9_eq]; exact tri_mul_sig_send m ρ K c _ _ (Fin.ext (k0_dev12_eq c)) (Fin.ext (k0_dev13_eq c)) (h := 4) (by decide) _ _ (off2_eq c (4 : Fin 31))
theorem at10 : SMid m ρ K c 5 6
      ⊢ wp frame (wpE (defs₀ (F := F)) 𝒱₀ (c : Thread nD τ) none) Set.univ (k0_part10 (F := F) xM (Memref.isWhole_whole _) wM (Memref.isWhole_whole _) oM (Memref.isWhole_whole _) cM (Memref.isWhole_whole _) cc0_scratch1 cc0_scratch2 cc0_scratch3 c v2 v5 v7) (fun _ => SPre m ρ K c 6 7) := by
  rw [part10_eq]; exact tri_wait_mul_sig m ρ K c _ (Fin.ext (k0_dev14_eq c)) (h := 5) (by decide) _ _ (off2_eq c (5 : Fin 31))
theorem at11 : SPre m ρ K c 6 7
      ⊢ wp frame (wpE (defs₀ (F := F)) 𝒱₀ (c : Thread nD τ) none) Set.univ (k0_part11 (F := F) xM (Memref.isWhole_whole _) wM (Memref.isWhole_whole _) oM (Memref.isWhole_whole _) cM (Memref.isWhole_whole _) cc0_scratch1 cc0_scratch2 cc0_scratch3 c v2 v7) (fun _ => SPost m ρ K c 6 7) := by
  rw [part11_eq]; exact tri_send_wait m ρ K c _ (Fin.ext (k0_dev15_eq c)) (h := 6) (by decide) _
theorem at12 : SPost m ρ K c 6 7
      ⊢ wp frame (wpE (defs₀ (F := F)) 𝒱₀ (c : Thread nD τ) none) Set.univ (k0_part12 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 7 8) := by
  rw [part12_eq]; exact tri_mul_sig_send m ρ K c _ _ (Fin.ext (k0_dev16_eq c)) (Fin.ext (k0_dev17_eq c)) (h := 6) (by decide) _ _ (off2_eq c (6 : Fin 31))
theorem at13 : SMid m ρ K c 7 8
      ⊢ wp frame (wpE (defs₀ (F := F)) 𝒱₀ (c : Thread nD τ) none) Set.univ (k0_part13 (F := F) xM (Memref.isWhole_whole _) wM (Memref.isWhole_whole _) oM (Memref.isWhole_whole _) cM (Memref.isWhole_whole _) cc0_scratch1 cc0_scratch2 cc0_scratch3 c v2 v5 v7) (fun _ => SPre m ρ K c 8 9) := by
  rw [part13_eq]; exact tri_wait_mul_sig m ρ K c _ (Fin.ext (k0_dev18_eq c)) (h := 7) (by decide) _ _ (off2_eq c (7 : Fin 31))
theorem at14 : SPre m ρ K c 8 9
      ⊢ wp frame (wpE (defs₀ (F := F)) 𝒱₀ (c : Thread nD τ) none) Set.univ (k0_part14 (F := F) xM (Memref.isWhole_whole _) wM (Memref.isWhole_whole _) oM (Memref.isWhole_whole _) cM (Memref.isWhole_whole _) cc0_scratch1 cc0_scratch2 cc0_scratch3 c v2 v7) (fun _ => SPost m ρ K c 8 9) := by
  rw [part14_eq]; exact tri_send_wait m ρ K c _ (Fin.ext (k0_dev19_eq c)) (h := 8) (by decide) _
theorem at15 : SPost m ρ K c 8 9
      ⊢ wp frame (wpE (defs₀ (F := F)) 𝒱₀ (c : Thread nD τ) none) Set.univ (k0_part15 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 9 10) := by
  rw [part15_eq]; exact tri_mul_sig_send m ρ K c _ _ (Fin.ext (k0_dev20_eq c)) (Fin.ext (k0_dev21_eq c)) (h := 8) (by decide) _ _ (off2_eq c (8 : Fin 31))
theorem at16 : SMid m ρ K c 9 10
      ⊢ wp frame (wpE (defs₀ (F := F)) 𝒱₀ (c : Thread nD τ) none) Set.univ (k0_part16 (F := F) xM (Memref.isWhole_whole _) wM (Memref.isWhole_whole _) oM (Memref.isWhole_whole _) cM (Memref.isWhole_whole _) cc0_scratch1 cc0_scratch2 cc0_scratch3 c v2 v5 v7) (fun _ => SPre m ρ K c 10 11) := by
  rw [part16_eq]; exact tri_wait_mul_sig m ρ K c _ (Fin.ext (k0_dev22_eq c)) (h := 9) (by decide) _ _ (off2_eq c (9 : Fin 31))
theorem at17 : SPre m ρ K c 10 11
      ⊢ wp frame (wpE (defs₀ (F := F)) 𝒱₀ (c : Thread nD τ) none) Set.univ (k0_part17 (F := F) xM (Memref.isWhole_whole _) wM (Memref.isWhole_whole _) oM (Memref.isWhole_whole _) cM (Memref.isWhole_whole _) cc0_scratch1 cc0_scratch2 cc0_scratch3 c v2 v7) (fun _ => SPost m ρ K c 10 11) := by
  rw [part17_eq]; exact tri_send_wait m ρ K c _ (Fin.ext (k0_dev23_eq c)) (h := 10) (by decide) _
theorem at18 : SPost m ρ K c 10 11
      ⊢ wp frame (wpE (defs₀ (F := F)) 𝒱₀ (c : Thread nD τ) none) Set.univ (k0_part18 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 11 12) := by
  rw [part18_eq]; exact tri_mul_sig_send m ρ K c _ _ (Fin.ext (k0_dev24_eq c)) (Fin.ext (k0_dev25_eq c)) (h := 10) (by decide) _ _ (off2_eq c (10 : Fin 31))
theorem at19 : SMid m ρ K c 11 12
      ⊢ wp frame (wpE (defs₀ (F := F)) 𝒱₀ (c : Thread nD τ) none) Set.univ (k0_part19 (F := F) xM (Memref.isWhole_whole _) wM (Memref.isWhole_whole _) oM (Memref.isWhole_whole _) cM (Memref.isWhole_whole _) cc0_scratch1 cc0_scratch2 cc0_scratch3 c v2 v5 v7) (fun _ => SPre m ρ K c 12 13) := by
  rw [part19_eq]; exact tri_wait_mul_sig m ρ K c _ (Fin.ext (k0_dev26_eq c)) (h := 11) (by decide) _ _ (off2_eq c (11 : Fin 31))
theorem at20 : SPre m ρ K c 12 13
      ⊢ wp frame (wpE (defs₀ (F := F)) 𝒱₀ (c : Thread nD τ) none) Set.univ (k0_part20 (F := F) xM (Memref.isWhole_whole _) wM (Memref.isWhole_whole _) oM (Memref.isWhole_whole _) cM (Memref.isWhole_whole _) cc0_scratch1 cc0_scratch2 cc0_scratch3 c v2 v7) (fun _ => SPost m ρ K c 12 13) := by
  rw [part20_eq]; exact tri_send_wait m ρ K c _ (Fin.ext (k0_dev27_eq c)) (h := 12) (by decide) _
theorem at21 : SPost m ρ K c 12 13
      ⊢ wp frame (wpE (defs₀ (F := F)) 𝒱₀ (c : Thread nD τ) none) Set.univ (k0_part21 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 13 14) := by
  rw [part21_eq]; exact tri_mul_sig_send m ρ K c _ _ (Fin.ext (k0_dev28_eq c)) (Fin.ext (k0_dev29_eq c)) (h := 12) (by decide) _ _ (off2_eq c (12 : Fin 31))
theorem at22 : SMid m ρ K c 13 14
      ⊢ wp frame (wpE (defs₀ (F := F)) 𝒱₀ (c : Thread nD τ) none) Set.univ (k0_part22 (F := F) xM (Memref.isWhole_whole _) wM (Memref.isWhole_whole _) oM (Memref.isWhole_whole _) cM (Memref.isWhole_whole _) cc0_scratch1 cc0_scratch2 cc0_scratch3 c v2 v5 v7) (fun _ => SPre m ρ K c 14 15) := by
  rw [part22_eq]; exact tri_wait_mul_sig m ρ K c _ (Fin.ext (k0_dev30_eq c)) (h := 13) (by decide) _ _ (off2_eq c (13 : Fin 31))
theorem at23 : SPre m ρ K c 14 15
      ⊢ wp frame (wpE (defs₀ (F := F)) 𝒱₀ (c : Thread nD τ) none) Set.univ (k0_part23 (F := F) xM (Memref.isWhole_whole _) wM (Memref.isWhole_whole _) oM (Memref.isWhole_whole _) cM (Memref.isWhole_whole _) cc0_scratch1 cc0_scratch2 cc0_scratch3 c v2 v7) (fun _ => SPost m ρ K c 14 15) := by
  rw [part23_eq]; exact tri_send_wait m ρ K c _ (Fin.ext (k0_dev31_eq c)) (h := 14) (by decide) _
theorem at24 : SPost m ρ K c 14 15
      ⊢ wp frame (wpE (defs₀ (F := F)) 𝒱₀ (c : Thread nD τ) none) Set.univ (k0_part24 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 15 16) := by
  rw [part24_eq]; exact tri_mul_sig_send m ρ K c _ _ (Fin.ext (k0_dev32_eq c)) (Fin.ext (k0_dev33_eq c)) (h := 14) (by decide) _ _ (off2_eq c (14 : Fin 31))
theorem at25 : SMid m ρ K c 15 16
      ⊢ wp frame (wpE (defs₀ (F := F)) 𝒱₀ (c : Thread nD τ) none) Set.univ (k0_part25 (F := F) xM (Memref.isWhole_whole _) wM (Memref.isWhole_whole _) oM (Memref.isWhole_whole _) cM (Memref.isWhole_whole _) cc0_scratch1 cc0_scratch2 cc0_scratch3 c v2 v5 v7) (fun _ => SPre m ρ K c 16 17) := by
  rw [part25_eq]; exact tri_wait_mul_sig m ρ K c _ (Fin.ext (k0_dev34_eq c)) (h := 15) (by decide) _ _ (off2_eq c (15 : Fin 31))
theorem at26 : SPre m ρ K c 16 17
      ⊢ wp frame (wpE (defs₀ (F := F)) 𝒱₀ (c : Thread nD τ) none) Set.univ (k0_part26 (F := F) xM (Memref.isWhole_whole _) wM (Memref.isWhole_whole _) oM (Memref.isWhole_whole _) cM (Memref.isWhole_whole _) cc0_scratch1 cc0_scratch2 cc0_scratch3 c v2 v7) (fun _ => SPost m ρ K c 16 17) := by
  rw [part26_eq]; exact tri_send_wait m ρ K c _ (Fin.ext (k0_dev35_eq c)) (h := 16) (by decide) _
theorem at27 : SPost m ρ K c 16 17
      ⊢ wp frame (wpE (defs₀ (F := F)) 𝒱₀ (c : Thread nD τ) none) Set.univ (k0_part27 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 17 18) := by
  rw [part27_eq]; exact tri_mul_sig_send m ρ K c _ _ (Fin.ext (k0_dev36_eq c)) (Fin.ext (k0_dev37_eq c)) (h := 16) (by decide) _ _ (off2_eq c (16 : Fin 31))
theorem at28 : SMid m ρ K c 17 18
      ⊢ wp frame (wpE (defs₀ (F := F)) 𝒱₀ (c : Thread nD τ) none) Set.univ (k0_part28 (F := F) xM (Memref.isWhole_whole _) wM (Memref.isWhole_whole _) oM (Memref.isWhole_whole _) cM (Memref.isWhole_whole _) cc0_scratch1 cc0_scratch2 cc0_scratch3 c v2 v5 v7) (fun _ => SPre m ρ K c 18 19) := by
  rw [part28_eq]; exact tri_wait_mul_sig m ρ K c _ (Fin.ext (k0_dev38_eq c)) (h := 17) (by decide) _ _ (off2_eq c (17 : Fin 31))
theorem at29 : SPre m ρ K c 18 19
      ⊢ wp frame (wpE (defs₀ (F := F)) 𝒱₀ (c : Thread nD τ) none) Set.univ (k0_part29 (F := F) xM (Memref.isWhole_whole _) wM (Memref.isWhole_whole _) oM (Memref.isWhole_whole _) cM (Memref.isWhole_whole _) cc0_scratch1 cc0_scratch2 cc0_scratch3 c v2 v7) (fun _ => SPost m ρ K c 18 19) := by
  rw [part29_eq]; exact tri_send_wait m ρ K c _ (Fin.ext (k0_dev39_eq c)) (h := 18) (by decide) _
theorem at30 : SPost m ρ K c 18 19
      ⊢ wp frame (wpE (defs₀ (F := F)) 𝒱₀ (c : Thread nD τ) none) Set.univ (k0_part30 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 19 20) := by
  rw [part30_eq]; exact tri_mul_sig_send m ρ K c _ _ (Fin.ext (k0_dev40_eq c)) (Fin.ext (k0_dev41_eq c)) (h := 18) (by decide) _ _ (off2_eq c (18 : Fin 31))
theorem at31 : SMid m ρ K c 19 20
      ⊢ wp frame (wpE (defs₀ (F := F)) 𝒱₀ (c : Thread nD τ) none) Set.univ (k0_part31 (F := F) xM (Memref.isWhole_whole _) wM (Memref.isWhole_whole _) oM (Memref.isWhole_whole _) cM (Memref.isWhole_whole _) cc0_scratch1 cc0_scratch2 cc0_scratch3 c v2 v5 v7) (fun _ => SPre m ρ K c 20 21) := by
  rw [part31_eq]; exact tri_wait_mul_sig m ρ K c _ (Fin.ext (k0_dev42_eq c)) (h := 19) (by decide) _ _ (off2_eq c (19 : Fin 31))
theorem at32 : SPre m ρ K c 20 21
      ⊢ wp frame (wpE (defs₀ (F := F)) 𝒱₀ (c : Thread nD τ) none) Set.univ (k0_part32 (F := F) xM (Memref.isWhole_whole _) wM (Memref.isWhole_whole _) oM (Memref.isWhole_whole _) cM (Memref.isWhole_whole _) cc0_scratch1 cc0_scratch2 cc0_scratch3 c v2 v7) (fun _ => SPost m ρ K c 20 21) := by
  rw [part32_eq]; exact tri_send_wait m ρ K c _ (Fin.ext (k0_dev43_eq c)) (h := 20) (by decide) _
theorem at33 : SPost m ρ K c 20 21
      ⊢ wp frame (wpE (defs₀ (F := F)) 𝒱₀ (c : Thread nD τ) none) Set.univ (k0_part33 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 21 22) := by
  rw [part33_eq]; exact tri_mul_sig_send m ρ K c _ _ (Fin.ext (k0_dev44_eq c)) (Fin.ext (k0_dev45_eq c)) (h := 20) (by decide) _ _ (off2_eq c (20 : Fin 31))
theorem at34 : SMid m ρ K c 21 22
      ⊢ wp frame (wpE (defs₀ (F := F)) 𝒱₀ (c : Thread nD τ) none) Set.univ (k0_part34 (F := F) xM (Memref.isWhole_whole _) wM (Memref.isWhole_whole _) oM (Memref.isWhole_whole _) cM (Memref.isWhole_whole _) cc0_scratch1 cc0_scratch2 cc0_scratch3 c v2 v5 v7) (fun _ => SPre m ρ K c 22 23) := by
  rw [part34_eq]; exact tri_wait_mul_sig m ρ K c _ (Fin.ext (k0_dev46_eq c)) (h := 21) (by decide) _ _ (off2_eq c (21 : Fin 31))
theorem at35 : SPre m ρ K c 22 23
      ⊢ wp frame (wpE (defs₀ (F := F)) 𝒱₀ (c : Thread nD τ) none) Set.univ (k0_part35 (F := F) xM (Memref.isWhole_whole _) wM (Memref.isWhole_whole _) oM (Memref.isWhole_whole _) cM (Memref.isWhole_whole _) cc0_scratch1 cc0_scratch2 cc0_scratch3 c v2 v7) (fun _ => SPost m ρ K c 22 23) := by
  rw [part35_eq]; exact tri_send_wait m ρ K c _ (Fin.ext (k0_dev47_eq c)) (h := 22) (by decide) _
theorem at36 : SPost m ρ K c 22 23
      ⊢ wp frame (wpE (defs₀ (F := F)) 𝒱₀ (c : Thread nD τ) none) Set.univ (k0_part36 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 23 24) := by
  rw [part36_eq]; exact tri_mul_sig_send m ρ K c _ _ (Fin.ext (k0_dev48_eq c)) (Fin.ext (k0_dev49_eq c)) (h := 22) (by decide) _ _ (off2_eq c (22 : Fin 31))
theorem at37 : SMid m ρ K c 23 24
      ⊢ wp frame (wpE (defs₀ (F := F)) 𝒱₀ (c : Thread nD τ) none) Set.univ (k0_part37 (F := F) xM (Memref.isWhole_whole _) wM (Memref.isWhole_whole _) oM (Memref.isWhole_whole _) cM (Memref.isWhole_whole _) cc0_scratch1 cc0_scratch2 cc0_scratch3 c v2 v5 v7) (fun _ => SPre m ρ K c 24 25) := by
  rw [part37_eq]; exact tri_wait_mul_sig m ρ K c _ (Fin.ext (k0_dev50_eq c)) (h := 23) (by decide) _ _ (off2_eq c (23 : Fin 31))
theorem at38 : SPre m ρ K c 24 25
      ⊢ wp frame (wpE (defs₀ (F := F)) 𝒱₀ (c : Thread nD τ) none) Set.univ (k0_part38 (F := F) xM (Memref.isWhole_whole _) wM (Memref.isWhole_whole _) oM (Memref.isWhole_whole _) cM (Memref.isWhole_whole _) cc0_scratch1 cc0_scratch2 cc0_scratch3 c v2 v7) (fun _ => SPost m ρ K c 24 25) := by
  rw [part38_eq]; exact tri_send_wait m ρ K c _ (Fin.ext (k0_dev51_eq c)) (h := 24) (by decide) _
theorem at39 : SPost m ρ K c 24 25
      ⊢ wp frame (wpE (defs₀ (F := F)) 𝒱₀ (c : Thread nD τ) none) Set.univ (k0_part39 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 25 26) := by
  rw [part39_eq]; exact tri_mul_sig_send m ρ K c _ _ (Fin.ext (k0_dev52_eq c)) (Fin.ext (k0_dev53_eq c)) (h := 24) (by decide) _ _ (off2_eq c (24 : Fin 31))
theorem at40 : SMid m ρ K c 25 26
      ⊢ wp frame (wpE (defs₀ (F := F)) 𝒱₀ (c : Thread nD τ) none) Set.univ (k0_part40 (F := F) xM (Memref.isWhole_whole _) wM (Memref.isWhole_whole _) oM (Memref.isWhole_whole _) cM (Memref.isWhole_whole _) cc0_scratch1 cc0_scratch2 cc0_scratch3 c v2 v5 v7) (fun _ => SPre m ρ K c 26 27) := by
  rw [part40_eq]; exact tri_wait_mul_sig m ρ K c _ (Fin.ext (k0_dev54_eq c)) (h := 25) (by decide) _ _ (off2_eq c (25 : Fin 31))
theorem at41 : SPre m ρ K c 26 27
      ⊢ wp frame (wpE (defs₀ (F := F)) 𝒱₀ (c : Thread nD τ) none) Set.univ (k0_part41 (F := F) xM (Memref.isWhole_whole _) wM (Memref.isWhole_whole _) oM (Memref.isWhole_whole _) cM (Memref.isWhole_whole _) cc0_scratch1 cc0_scratch2 cc0_scratch3 c v2 v7) (fun _ => SPost m ρ K c 26 27) := by
  rw [part41_eq]; exact tri_send_wait m ρ K c _ (Fin.ext (k0_dev55_eq c)) (h := 26) (by decide) _
theorem at42 : SPost m ρ K c 26 27
      ⊢ wp frame (wpE (defs₀ (F := F)) 𝒱₀ (c : Thread nD τ) none) Set.univ (k0_part42 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 27 28) := by
  rw [part42_eq]; exact tri_mul_sig_send m ρ K c _ _ (Fin.ext (k0_dev56_eq c)) (Fin.ext (k0_dev57_eq c)) (h := 26) (by decide) _ _ (off2_eq c (26 : Fin 31))
theorem at43 : SMid m ρ K c 27 28
      ⊢ wp frame (wpE (defs₀ (F := F)) 𝒱₀ (c : Thread nD τ) none) Set.univ (k0_part43 (F := F) xM (Memref.isWhole_whole _) wM (Memref.isWhole_whole _) oM (Memref.isWhole_whole _) cM (Memref.isWhole_whole _) cc0_scratch1 cc0_scratch2 cc0_scratch3 c v2 v5 v7) (fun _ => SPre m ρ K c 28 29) := by
  rw [part43_eq]; exact tri_wait_mul_sig m ρ K c _ (Fin.ext (k0_dev58_eq c)) (h := 27) (by decide) _ _ (off2_eq c (27 : Fin 31))
theorem at44 : SPre m ρ K c 28 29
      ⊢ wp frame (wpE (defs₀ (F := F)) 𝒱₀ (c : Thread nD τ) none) Set.univ (k0_part44 (F := F) xM (Memref.isWhole_whole _) wM (Memref.isWhole_whole _) oM (Memref.isWhole_whole _) cM (Memref.isWhole_whole _) cc0_scratch1 cc0_scratch2 cc0_scratch3 c v2 v7) (fun _ => SPost m ρ K c 28 29) := by
  rw [part44_eq]; exact tri_send_wait m ρ K c _ (Fin.ext (k0_dev59_eq c)) (h := 28) (by decide) _
theorem at45 : SPost m ρ K c 28 29
      ⊢ wp frame (wpE (defs₀ (F := F)) 𝒱₀ (c : Thread nD τ) none) Set.univ (k0_part45 (F := F) xM (Memref.isWhole_whole _) wM (Memref.isWhole_whole _) oM (Memref.isWhole_whole _) cM (Memref.isWhole_whole _) cc0_scratch1 cc0_scratch2 cc0_scratch3 c v5 v7 v51 c32) (fun _ => SMid m ρ K c 29 30) := by
  rw [part45_eq]; exact tri_mul_sig_send m ρ K c _ _ (Fin.ext (k0_dev60_eq c)) (Fin.ext (k0_dev61_eq c)) (h := 28) (by decide) _ _ (off2_eq c (28 : Fin 31))
theorem at46 : SMid m ρ K c 29 30
      ⊢ wp frame (wpE (defs₀ (F := F)) 𝒱₀ (c : Thread nD τ) none) Set.univ (k0_part46 (F := F) xM (Memref.isWhole_whole _) wM (Memref.isWhole_whole _) oM (Memref.isWhole_whole _) cM (Memref.isWhole_whole _) cc0_scratch1 cc0_scratch2 cc0_scratch3 c v2 v5 v7) (fun _ => SPre m ρ K c 30 31) := by
  rw [part46_eq]; exact tri_wait_mul_sig m ρ K c _ (Fin.ext (k0_dev62_eq c)) (h := 29) (by decide) _ _ (off2_eq c (29 : Fin 31))
theorem at47 : SPre m ρ K c 30 31
      ⊢ wp frame (wpE (defs₀ (F := F)) 𝒱₀ (c : Thread nD τ) none) Set.univ (k0_part47 (F := F) xM (Memref.isWhole_whole _) wM (Memref.isWhole_whole _) oM (Memref.isWhole_whole _) cM (Memref.isWhole_whole _) cc0_scratch1 cc0_scratch2 cc0_scratch3 c v2 v7) (fun _ => SPost m ρ K c 30 31) := by
  rw [part47_eq]; exact tri_send_wait m ρ K c _ (Fin.ext (k0_dev63_eq c)) (h := 30) (by decide) _

end Printed

omit [FloatOps F] in
theorem with_pure {φ : Prop} {P : sProp 𝕄} (h : φ) : P ⊢ iprop(⌜φ⌝ ∗ P) := by
  iintro H; isplitr; · (ipureintro; exact h)
  iexact H

theorem at1 (c : Dev nD) :
    iprop(env m ρ K ∗ Begin c ∗ (∃ f, ((c : Thread nD τ).loc cc0_scratch0) ↦{fullShare} f) ∗ Out m ρ c 0)
      ⊢ wp frame (wpE (defs₀ (F := F)) 𝒱₀ (c : Thread nD τ) none) Set.univ (k0_part1 (F := F) xM (Memref.isWhole_whole _) wM (Memref.isWhole_whole _) oM (Memref.isWhole_whole _) cM (Memref.isWhole_whole _) cc0_scratch1 cc0_scratch2 cc0_scratch3)
          (fun a => iprop(⌜∃ v2 v5 v7, a = ⟨c, v2, v5, v7⟩⌝ ∗ SPre m ρ K c 0 0)) := by
  rw [part1_eq]
  show _ ⊢ wp frame (wpE (defs₀ (F := F)) 𝒱₀ (c : Thread nD τ) none) Set.univ (Prog.op .deviceId fun d : Dev nD => _) _
  rw [wp_deviceId 𝒱₀ (c : Thread nD τ) none Set.univ]
  show _ ⊢ wp frame (wpE (defs₀ (F := F)) 𝒱₀ (c : Thread nD τ) none) Set.univ (progStart _ _ >>= _) _
  refine wp_seq (step_start m ρ K c _ _ (Fin.ext (k0_dev1_eq c)) (Fin.ext (k0_dev2_eq c))) fun _ => ?_
  refine BI.Entails.trans ?_ (wp_done _ _)
  exact with_pure ⟨_, _, _, rfl⟩

theorem pure_wp {c : Dev nD} {α : Type} {φ : Prop} {P : sProp 𝕄} {p : KProg F α} {Q : α → sProp 𝕄}
    (h : φ → P ⊢ wp frame (wpE (defs₀ (F := F)) 𝒱₀ (c : Thread nD τ) none) Set.univ p Q) : iprop(⌜φ⌝ ∗ P) ⊢ wp frame (wpE (defs₀ (F := F)) 𝒱₀ (c : Thread nD τ) none) Set.univ p Q := by
  iintro ⟨%hφ, HP⟩; iapply (h hφ); iexact HP

/-- The whole body, up to the closing of the cells. -/
theorem body_run (c : Dev nD) :
    iprop(env m ρ K ∗ Begin c ∗ (∃ f, ((c : Thread nD τ).loc cc0_scratch0) ↦{fullShare} f) ∗ Out m ρ c 0)
      ⊢ wp frame (wpE (defs₀ (F := F)) 𝒱₀ (c : Thread nD τ) none) Set.univ (cc0_body (F := F) xM (Memref.isWhole_whole _) wM (Memref.isWhole_whole _) oM (Memref.isWhole_whole _) cM (Memref.isWhole_whole _) cc0_scratch1 cc0_scratch2 cc0_scratch3)
          (fun _ => SPost m ρ K c 30 32) := by
  rw [cc0_body_eq_skeleton]; unfold cc0_body_skel
  rw [wp_bind, k0_part48_eq_skeleton]; unfold k0_part48_skel
  refine wp_seq (at1 m ρ K c) ?_
  rintro ⟨d0, v2, v5, v7⟩
  refine pure_wp ?_
  rintro ⟨_, _, _, e⟩
  cases e
  refine wp_seq (at2 m ρ K c _ _) ?_; rintro ⟨v51, c32⟩
  refine wp_seq (at3 m ρ K c _ _ _ _) fun _ => ?_
  refine wp_seq (at4 m ρ K c _ _ _) fun _ => ?_
  refine wp_seq (at5 m ρ K c _ _) ?_; rintro ⟨v51, c32⟩
  refine wp_seq (at6 m ρ K c _ _ _ _) fun _ => ?_
  refine wp_seq (at7 m ρ K c _ _ _) fun _ => ?_
  refine wp_seq (at8 m ρ K c _ _) ?_; rintro ⟨v51, c32⟩
  refine wp_seq (at9 m ρ K c _ _ _ _) fun _ => ?_
  refine wp_seq (at10 m ρ K c _ _ _) fun _ => ?_
  refine wp_seq (at11 m ρ K c _ _) ?_; rintro ⟨v51, c32⟩
  refine wp_seq (at12 m ρ K c _ _ _ _) fun _ => ?_
  refine wp_seq (at13 m ρ K c _ _ _) fun _ => ?_
  refine wp_seq (at14 m ρ K c _ _) ?_; rintro ⟨v51, c32⟩
  refine wp_seq (at15 m ρ K c _ _ _ _) fun _ => ?_
  refine wp_seq (at16 m ρ K c _ _ _) fun _ => ?_
  refine wp_seq (at17 m ρ K c _ _) ?_; rintro ⟨v51, c32⟩
  refine wp_seq (at18 m ρ K c _ _ _ _) fun _ => ?_
  refine wp_seq (at19 m ρ K c _ _ _) fun _ => ?_
  refine wp_seq (at20 m ρ K c _ _) ?_; rintro ⟨v51, c32⟩
  refine wp_seq (at21 m ρ K c _ _ _ _) fun _ => ?_
  refine wp_seq (at22 m ρ K c _ _ _) fun _ => ?_
  refine wp_seq (at23 m ρ K c _ _) ?_; rintro ⟨v51, c32⟩
  refine wp_seq (at24 m ρ K c _ _ _ _) fun _ => ?_
  refine wp_seq (at25 m ρ K c _ _ _) fun _ => ?_
  refine wp_seq (at26 m ρ K c _ _) ?_; rintro ⟨v51, c32⟩
  refine wp_seq (at27 m ρ K c _ _ _ _) fun _ => ?_
  refine wp_seq (at28 m ρ K c _ _ _) fun _ => ?_
  refine wp_seq (at29 m ρ K c _ _) ?_; rintro ⟨v51, c32⟩
  refine wp_seq (at30 m ρ K c _ _ _ _) fun _ => ?_
  refine wp_seq (at31 m ρ K c _ _ _) fun _ => ?_
  refine wp_seq (at32 m ρ K c _ _) ?_; rintro ⟨v51, c32⟩
  refine wp_seq (at33 m ρ K c _ _ _ _) fun _ => ?_
  refine wp_seq (at34 m ρ K c _ _ _) fun _ => ?_
  refine wp_seq (at35 m ρ K c _ _) ?_; rintro ⟨v51, c32⟩
  refine wp_seq (at36 m ρ K c _ _ _ _) fun _ => ?_
  refine wp_seq (at37 m ρ K c _ _ _) fun _ => ?_
  refine wp_seq (at38 m ρ K c _ _) ?_; rintro ⟨v51, c32⟩
  refine wp_seq (at39 m ρ K c _ _ _ _) fun _ => ?_
  refine wp_seq (at40 m ρ K c _ _ _) fun _ => ?_
  refine wp_seq (at41 m ρ K c _ _) ?_; rintro ⟨v51, c32⟩
  refine wp_seq (at42 m ρ K c _ _ _ _) fun _ => ?_
  refine wp_seq (at43 m ρ K c _ _ _) fun _ => ?_
  refine wp_seq (at44 m ρ K c _ _) ?_; rintro ⟨v51, c32⟩
  refine wp_seq (at45 m ρ K c _ _ _ _) fun _ => ?_
  refine wp_seq (at46 m ρ K c _ _ _) fun _ => ?_
  refine wp_seq (at47 m ρ K c _ _) ?_; rintro ⟨v51, c32⟩
  refine (mul_post m ρ K c (h := 30) (by decide) (k0_off2 c 30#32) (k0_off2_inb c 30) (off2_eq c (30 : Fin 31))).trans (Entails.of_eq ?_)
  refine Eq.trans ?_ (wp_bind _ _ _ _ _ _)
  rfl

/-! ## The end -/

/-- What a device is left with. -/
def End (c : Dev nD) : sProp 𝕄 :=
  iprop((∃ f, ((c : Thread nD τ).loc cc0_scratch0) ↦{fullShare} f)
    ∗ semVal (barCell c) 0 ∗ semVal (credCell c) 0 ∗ semVal (sendCell c 0) 0 ∗ semVal (sendCell c 1) 0 ∗ semVal (recvCell c 0) 0 ∗ semVal (recvCell c 1) 0
    ∗ owing c 0 ∗ Out m ρ c 32)

omit [FloatOps F] in
theorem close (c : Dev nD) (k : Fin 6) {R : ℕ} (hR : (![1, 30, 16, 15, 15, 16] : Fin 6 → ℕ) k = R) :
    iprop(env (F := F) m ρ K ∗ atPos ER (kcell (c, k)) R ∅ 0) ⊢ iprop(|={Set.univ}=> semVal (kcell (c, k)) 0) := by
  subst hR
  iintro ⟨#HE, H⟩
  iapply (Rounds.cell_close ER (Rd m ρ) (κ := K (c, k)) (Set.mem_univ _) (fun h => h) (duties_later m ρ c k))
  isplitr; · iapply (env_inv m ρ K (c, k)); iexact HE
  iexact H

omit [FloatOps F] in
theorem join_slots (c : Dev nD) :
    iprop(slotAny (F := F) c (sl 30) ∗ slotAny c (sl (30 + 1))) ⊢ iprop(∃ f, ((c : Thread nD τ).loc cc0_scratch0) ↦{fullShare} f) := scratch_join c

theorem step_end (c : Dev nD) : SPost m ρ K c 30 32 ⊢ iprop(|={Set.univ}=> End m ρ c) := by
  unfold SPost Post Side pos
  rw [show due c (30 + 1) 30 = 0 from due_done c]
  iintro ⟨#HE, ⟨Hs, Hv, -, ⟨Ha1, -⟩, ⟨Ha2, -⟩, ⟨Ha3, -⟩, ⟨Ha4, -⟩, ⟨Ha5, -⟩, HO, -⟩, Hb, Hout⟩
  imod (close m ρ K c 0 (R := 1) rfl) $$ [Hb] with Zb
  · isplitr; · iexact HE
    iexact Hb
  imod (close m ρ K c 1 (R := 30) rfl) $$ [Ha5] with Zc
  · isplitr; · iexact HE
    iexact Ha5
  imod (close m ρ K c 2 (R := 16) rfl) $$ [Ha1] with Z0
  · isplitr; · iexact HE
    iexact Ha1
  imod (close m ρ K c 3 (R := 15) rfl) $$ [Ha2] with Z1
  · isplitr; · iexact HE
    iexact Ha2
  imod (close m ρ K c 4 (R := 15) rfl) $$ [Ha4] with Y0
  · isplitr; · iexact HE
    iexact Ha4
  imod (close m ρ K c 5 (R := 16) rfl) $$ [Ha3] with Y1
  · isplitr; · iexact HE
    iexact Ha3
  imodintro
  unfold End
  isplitl [Hs Hv]
  · iapply (join_slots (F := F) c); unfold slotAny
    isplitl [Hs]; · iexists _; iexact Hs
    iexists _; iexact Hv
  isplitl [Zb]; · iexact Zb
  isplitl [Zc]; · iexact Zc
  isplitl [Z0]; · iexact Z0
  isplitl [Z1]; · iexact Z1
  isplitl [Y0]; · iexact Y0
  isplitl [Y1]; · iexact Y1
  isplitl [HO] <;> iassumption

theorem wp_fin {c : Dev nD} {α : Type} {p : KProg F α} {P R Q : sProp 𝕄}
    (h : P ⊢ wp frame (wpE (defs₀ (F := F)) 𝒱₀ (c : Thread nD τ) none) Set.univ p (fun _ => R)) (h' : R ⊢ iprop(|={Set.univ}=> Q)) : P ⊢ wp frame (wpE (defs₀ (F := F)) 𝒱₀ (c : Thread nD τ) none) Set.univ p (fun _ => Q) :=
  h.trans ((wp_mono _ _ _ fun _ => h').trans (wp_fupd _ _ _ _ _))

theorem body_end (c : Dev nD) :
    iprop(env m ρ K ∗ Begin c ∗ (∃ f, ((c : Thread nD τ).loc cc0_scratch0) ↦{fullShare} f) ∗ Out m ρ c 0)
      ⊢ wp frame (wpE (defs₀ (F := F)) 𝒱₀ (c : Thread nD τ) none) Set.univ (cc0_body (F := F) xM (Memref.isWhole_whole _) wM (Memref.isWhole_whole _) oM (Memref.isWhole_whole _) cM (Memref.isWhole_whole _) cc0_scratch1 cc0_scratch2 cc0_scratch3)
          (fun _ => End m ρ c) :=
  wp_fin (body_run m ρ K c) (step_end m ρ K c)

/-! ## What the output then is -/

open Idealize.ShloMosaic.ValueIdx (ix2)

set_option backward.proofsInPublic true in
/-- The output of device `c`: row `i` is a row of the product of block `i / 128` of `x`. -/
def outAt (c : Dev nD) : (cc0_stg2_0 : Ref sig .tc).ty.Contents (Elt F) := fun (i : S4096x64.Idx) =>
  prod (xstg m ρ ⟨(i 0).val / 128, by have h : (i 0).val < 4096 := (i 0).isLt; show _ < 32; omega⟩) (wstg m ρ c)
    (ix2 ⟨(i 0).val % 128, Nat.mod_lt _ (by decide)⟩ (i 1))

theorem good_all (c : Dev nD) (g : (cc0_stg2_0 : Ref sig .tc).ty.Contents (Elt F)) (hg : Good m ρ c 32 g) : g = outAt m ρ c := by
  funext (i : S4096x64.Idx)
  have h0 : (i 0).val < 4096 := (i 0).isLt
  obtain ⟨j, hj, e⟩ := exists_back c ⟨(i 0).val / 128, by show _ < 32; omega⟩
  have h := congrFun (hg j hj) (ix2 ⟨(i 0).val % 128, Nat.mod_lt _ (by decide)⟩ (i 1))
  rw [e] at h
  refine Eq.trans ?_ h
  show g i = g ((rowR _).emb _)
  refine congrArg g (funext fun a => Fin.ext ?_)
  rw [Rect.emb_apply]
  fin_cases a
  · show (i 0).val = 128 * ((i 0).val / 128) + 1 * ((i 0).val % 128); omega
  · show (i 1).val = 0 + 1 * (i 1).val; omega

end Cert.RingGemm

end
-- ==== Proof.Point.lean ====
/-
# The body as the pipeline asks for it

One grid point: the two operands fetched, the body run, the result written back.
-/
module

public import proofs.«01_k».proof.Proof.Body

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What a device is dealt -/

/-- A device's positions in its six cells. -/
def places (c : Dev nD) : sProp 𝕄 := bigSep Finset.univ fun k : Fin 6 => atPos ER (kcell (c, k)) 0 ∅ 0

/-- The tokens of the duties that a device discharges. -/
def payToks (c : Dev nD) : sProp 𝕄 :=
  iprop(dutyTok ER (barCell (prv c)) 0 true ∗ dutyTok ER (barCell (nxt c)) 0 false ∗ RT c 0 ∗ ST c 0 ∗ CT c 0)

/-- What is promised to a device: two barrier units, the blocks and the credits. -/
def promised (c : Dev nD) : sProp 𝕄 := iprop(cred (tallyAt (barCell c) 1 2) ∗ RC c 0 ∗ CC c 0)

/-- A device's share of the ring's ghost state. -/
def dealt (c : Dev nD) : sProp 𝕄 := iprop(∃ K, (invs m ρ K ∗ starts) ∗ places c ∗ payToks c)

def start (c : Dev nD) : sProp 𝕄 := iprop(dealt m ρ c ∗ promised c ∗ levs)

/-- Before and after the one grid point. -/
def Φ₀ (c : Dev nD) : sProp 𝕄 := iprop(start m ρ c ∗ ∃ f, ((c : Thread nD τ).loc cc0_scratch0) ↦{fullShare} f)
def Φ₁ (c : Dev nD) : sProp 𝕄 :=
  iprop((∃ f, ((c : Thread nD τ).loc cc0_scratch0) ↦{fullShare} f)
    ∗ semVal (barCell c) 0 ∗ semVal (credCell c) 0 ∗ semVal (sendCell c 0) 0 ∗ semVal (sendCell c 1) 0 ∗ semVal (recvCell c 0) 0 ∗ semVal (recvCell c 1) 0)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem begin_intro (c : Dev nD) :
    iprop(places (F := F) c ∗ payToks c ∗ promised c ∗ owing c (O₀ c)) ⊢ Begin c := by
  unfold places payToks promised Begin
  rw [bigSep_fin6]
  iintro ⟨⟨H0, H1, H2, H3, H4, H5⟩, ⟨HtP, HtN, HRT, HST, HCT⟩, ⟨Hcb, HRC, HCC⟩, HO⟩
  isplitl [H0]; · iexact H0
  isplitl [HtP]; · iexact HtP
  isplitl [HtN]; · iexact HtN
  isplitl [Hcb]; · iexact Hcb
  isplitl [H2]; · iexact H2
  isplitl [H3]; · iexact H3
  isplitl [H5]; · iexact H5
  isplitl [H4]; · iexact H4
  isplitl [H1]; · iexact H1
  isplitl [HO]; · iexact HO
  isplitl [HRT]; · iexact HRT
  isplitl [HST]; · iexact HST
  isplitl [HRC]; · iexact HRC
  isplitl [HCT] <;> iassumption

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 65536 in
def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 65536 in
def bodyPost (c : Dev nD) : sProp 𝕄 :=
  iprop(Φ₁ (F := F) c ∗ (dats m ρ 0 c).owesAt 0 t₀.succ
    ∗ stg c cc0_stg0_0 (xstg m ρ c) ∗ stg c cc0_stg1_0 (wstg m ρ c) ∗ stg c cc0_stg2_0 (outAt m ρ c))

/-- What the body needs, beside the scratch buffer, at some names of the cells. -/
def entry (c : Dev nD) : sProp 𝕄 :=
  iprop(∃ K, env m ρ K ∗ Begin c ∗ (∃ f, ((c : Thread nD τ).loc cc0_scratch0) ↦{fullShare} f) ∗ Out m ρ c 0)

theorem pre_entry (c : Dev nD) : bodyPre m ρ c ⊢ entry m ρ c := by
  unfold bodyPre Φ₀ start dealt entry
  iintro ⟨⟨⟨⟨%K, ⟨#HI, #HS⟩, Hpl, Htk⟩, Hpr, #HL⟩, Hsc⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  iexists K
  isplitr
  · unfold env; isplitr; · iexact HI
    isplitr; · iexact HS
    iexact HL
  isplitl [Hpl Htk Hpr HO]
  · iapply (begin_intro (F := F) c)
    isplitl [Hpl]; · iexact Hpl
    isplitl [Htk]; · iexact Htk
    isplitl [Hpr]; · iexact Hpr
    unfold owing; iexists W; iexact HO
  isplitl [Hsc]; · iexact Hsc
  unfold Out
  isplitl [Hx]; · iexact Hx
  isplitl [Hw]; · iexact Hw
  iexists g2; isplitr; · (ipureintro; exact fun j hj => absurd hj (Nat.not_lt_zero j))
  iexact Hout

theorem end_post (c : Dev nD) : End m ρ c ⊢ bodyPost m ρ c := by
  unfold End Out owing bodyPost Φ₁ Dat.owesAt Pipeline.owesWithin
  rw [show (dats m ρ 0 c).owed t₀.succ = 0 from rfl]
  iintro ⟨Hsc, Zb, Zc, Z0, Z1, Y0, Y1, ⟨%W, HO⟩, Hx, Hw, ⟨%g, %hg, Hout⟩⟩
  isplitl [Hsc Zb Zc Z0 Z1 Y0 Y1]
  · isplitl [Hsc]; · iexact Hsc
    isplitl [Zb]; · iexact Zb
    isplitl [Zc]; · iexact Zc
    isplitl [Z0]; · iexact Z0
    isplitl [Z1]; · iexact Z1
    isplitl [Y0] <;> iassumption
  isplitl [HO]
  · iexists W; isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists g; isplitr; · (ipureintro; exact good_all m ρ c g hg)
  iexact Hout

omit [FloatOps F] in
theorem levs_eq : (levs : sProp 𝕄) = levAts Lv SiteBlocks.lv := by unfold levs; rfl
omit [FloatOps F] in
theorem levs_intro : (levAts Lv SiteBlocks.lv : sProp 𝕄) ⊢ levs := Entails.of_eq levs_eq.symm

theorem call_eq : (defs₀ (F := F)) Proc.tc 0 (t₀, cfg0.slots t₀) = bodyAt0 t₀ := rfl

set_option maxRecDepth 8000 in
theorem point_eq : bodyAt0 (F := F) t₀ = cc0_body (F := F) xM (Memref.isWhole_whole _) wM (Memref.isWhole_whole _) oM (Memref.isWhole_whole _) cM (Memref.isWhole_whole _) cc0_scratch1 cc0_scratch2 cc0_scratch3 := by
  unfold bodyAt0
  congr 1

theorem wp_weaken {c : Dev nD} {α : Type} {p : KProg F α} {P R Q : sProp 𝕄} (h : P ⊢ wp frame (wpE (defs₀ (F := F)) 𝒱₀ (c : Thread nD τ) none) Set.univ p (fun _ => R)) (h' : R ⊢ Q) : P ⊢ wp frame (wpE (defs₀ (F := F)) 𝒱₀ (c : Thread nD τ) none) Set.univ p (fun _ => Q) :=
  h.trans (wp_mono _ _ _ fun _ => h')

set_option maxRecDepth 65536 in
/-- The body takes what the pipeline gives it to what the pipeline asks for. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  rw [call_eq, point_eq]
  refine wp_weaken (R := bodyPost m ρ c) (BI.Entails.trans (show _ ⊢ bodyPre m ρ c from Entails.of_eq rfl) ?_) (Entails.of_eq rfl)
  refine (pre_entry m ρ c).trans ?_
  unfold entry
  exact exists_elim fun K => wp_weaken (body_end m ρ K c) (end_post m ρ c)

end Cert.RingGemm

end
-- ==== Proof.Launch.lean ====
/-
# The launch

The cells with their tokens, dealt around the ring, what every device is promised, and the run of the whole mesh.
-/
module

public import proofs.«01_k».proof.Proof.Point
public import Idealize.ShloMosaic.Lib.Pipeline.CollectiveSegs

@[expose] public section

noncomputable section

namespace Cert.RingGemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 6 → GSem nD τ sig) := by
  rintro ⟨c, k⟩ ⟨c', k'⟩ h
  have h1 : c = c' := congrArg (fun g : GSem nD τ sig => g.1.1) h
  have h2 : csem k = csem k' := congrArg Prod.snd h
  have h3 : k = k' := Fin.ext (by rw [← kind_csem k, ← kind_csem k', h2])
  rw [h1, h3]
def ringCells : Finset (GSem nD τ sig) := Finset.univ.map ⟨kcell, kcell_injective⟩

/-- The tokens as minted: a device's barrier tokens of both names, its send, receive and credit tokens, hop by hop. -/
abbrev tokOf (x : Dev nD × Fin 5 × Fin 31) : GSem nD τ sig × ℕ × Bool := match x.2.1 with
  | 0 => (barCell x.1, x.2.2.val, false) | 1 => (barCell x.1, x.2.2.val, true)
  | 2 => (sendCell x.1 (sl x.2.2.val), x.2.2.val / 2, false)
  | 3 => (recvCell x.1 (sl (x.2.2.val + 1)), x.2.2.val / 2, false)
  | 4 => (credCell x.1, x.2.2.val, false)

/-- Device, kind of cell, round and name of a token. -/
def code (x : GSem nD τ sig × ℕ × Bool) : ℕ × ℕ × Bool := (kind x.1.2, x.2)

theorem code_tok (c : Dev nD) (j : Fin 5) (h : Fin 31) : code (tokOf (c, j, h)) = match j with
    | 0 => (0, h.val, false) | 1 => (0, h.val, true) | 2 => (2 + h.val % 2, h.val / 2, false)
    | 3 => (4 + (h.val + 1) % 2, h.val / 2, false) | 4 => (1, h.val, false) := by
  fin_cases j
  · exact congrArg (fun k => (k, h.val, false)) kind_bar
  · exact congrArg (fun k => (k, h.val, true)) kind_bar
  · exact congrArg (fun k => (k, h.val / 2, false)) (kind_send (sl h.val))
  · exact congrArg (fun k => (k, h.val / 2, false)) (kind_recv (sl (h.val + 1)))
  · exact congrArg (fun k => (k, h.val, false)) kind_cred

theorem tokOf_injective : Function.Injective (tokOf : Dev nD × Fin 5 × Fin 31 → GSem nD τ sig × ℕ × Bool) := by
  rintro ⟨c, j, h⟩ ⟨c', j', h'⟩ e
  have h1 : c = c' := by
    have := congrArg (fun x : GSem nD τ sig × ℕ × Bool => x.1.1.1) e
    fin_cases j <;> fin_cases j' <;> exact this
  have h2 := congrArg code e
  rw [code_tok, code_tok] at h2
  have h3 : j = j' ∧ h.val = h'.val := by
    fin_cases j <;> fin_cases j' <;> simp only [Prod.mk.injEq] at h2 <;>
      first
      | exact ⟨rfl, by omega⟩
      | (exfalso; omega)
      | (exfalso; exact absurd h2.2.2 (by decide))
  rw [h1, h3.1, Fin.ext h3.2]
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- The tokens of a device's own cells. -/
def toks (c : Dev nD) : sProp 𝕄 :=
  bigSep Finset.univ fun j : Fin 5 => bigSep Finset.univ fun h : Fin 31 => dutyTok ER (tokOf (c, j, h)).1 (tokOf (c, j, h)).2.1 (tokOf (c, j, h)).2.2

def G (c : Dev nD) : sProp 𝕄 :=
  iprop((bigSep Finset.univ fun k : Fin 6 => roundState ER (Rd m ρ) (kcell (c, k)) 0)
    ∗ ((bigSep Finset.univ fun k : Fin 6 => atPos ER (kcell (c, k)) 0 ∅ 0) ∗ bigSep Finset.univ fun k : Fin 6 => reached ER (kcell (c, k)) 0) ∗ toks c)

omit [FloatOps F] in
theorem cells_eq (Φ : GSem nD τ sig → sProp 𝕄) :
    bigSep ringCells Φ = bigSep Finset.univ fun c : Dev nD => bigSep Finset.univ fun k : Fin 6 => Φ (kcell (c, k)) := by
  unfold ringCells; rw [bigSep_map, bigSep_univ_prod]; rfl
omit [FloatOps F] in
theorem toks_eq : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_univ_prod]; rfl

omit [FloatOps F] in
theorem fund_ring : BI.own (ER (initOf ringCells ringToks)) ⊢ (|==> bigSep Finset.univ (G m ρ) : sProp 𝕄) := by
  iintro HX
  imod (Rounds.fund ER (Rd m ρ) ringCells ringToks) $$ HX with ⟨Hst, Hr, Hat, Htok⟩
  imodintro
  ihave Hst' := (Entails.of_eq (cells_eq fun g => roundState ER (Rd m ρ) g 0)) $$ Hst
  ihave Hat' := (Entails.of_eq (cells_eq (F := F) fun g => atPos ER g 0 ∅ 0)) $$ Hat
  ihave Hr' := (Entails.of_eq (cells_eq (F := F) fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The cells' invariants -/

omit [FloatOps F] in
theorem ownSems0_eq (c : Dev nD) : (Pipeline.ownSems0 (Ix := ℕ) (Name := ℕ) (U := UU) (Lvl := ℕ) (Val := Elt F) (τ := τ) osem c : sProp 𝕄)
    = iprop(semVal (credCell c) 0 ∗ semVal (sendCell c 0) 0 ∗ semVal (sendCell c 1) 0 ∗ semVal (recvCell c 0) 0 ∗ semVal (recvCell c 1) 0) := by
  rw [Pipeline.ownSems0_eq_of_list c osem [0, 1, 2, 3, 4] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨H, HB⟩
  isplitl [HB]; · iexact HB
  iexact H

omit [FloatOps F] in
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (places c ∗ bigSep Finset.univ fun k : Fin 6 => reached ER (kcell (c, k)) 0) ∗ toks c) := by
  unfold G places
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens around the ring -/

omit [FloatOps F] in
/-- A row over the hops, as an interval. -/
theorem row_eq (Φ : ℕ → sProp 𝕄) : (bigSep Finset.univ fun h : Fin 31 => Φ h.val) = bigSep (Finset.Ico 0 31) Φ := by
  rw [show (Finset.Ico 0 31 : Finset ℕ) = Finset.univ.map (Fin.valEmbedding (n := 31)) by decide, bigSep_map]; rfl

/-- The tokens of a device's own receive and credit cells. -/
def RV (c : Dev nD) : sProp 𝕄 := bigSep (Finset.Ico 0 31) fun j => dutyTok ER (recvCell c (sl (j + 1))) (j / 2) false
def CV (c : Dev nD) : sProp 𝕄 := bigSep (Finset.Ico 0 30) fun j => dutyTok ER (credCell c) j false

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem toks_rows (c : Dev nD) :
    toks (F := F) c ⊢ iprop(dutyTok ER (barCell c) 0 true ∗ dutyTok ER (barCell c) 0 false ∗ RV c ∗ ST c 0 ∗ CV c) := by
  unfold toks
  rw [bigSep_fin5]
  have hb (b : Bool) : (bigSep Finset.univ fun h : Fin 31 => (dutyTok ER (barCell c) h.val b : sProp 𝕄)) ⊢ dutyTok ER (barCell c) 0 b :=
    bigSep_elim (Finset.mem_univ (0 : Fin 31))
  have hc : (bigSep Finset.univ fun h : Fin 31 => (dutyTok ER (credCell c) h.val false : sProp 𝕄)) ⊢ CV c := by
    rw [row_eq (fun j => dutyTok ER (credCell c) j false)]; unfold CV
    exact bigSep_subset (by decide)
  have hr : (bigSep Finset.univ fun h : Fin 31 => (dutyTok ER (recvCell c (sl (h.val + 1))) (h.val / 2) false : sProp 𝕄)) ⊢ RV c := by
    rw [row_eq (fun j => dutyTok ER (recvCell c (sl (j + 1))) (j / 2) false)]; exact Entails.of_eq rfl
  have hs : (bigSep Finset.univ fun h : Fin 31 => (dutyTok ER (sendCell c (sl h.val)) (h.val / 2) false : sProp 𝕄)) ⊢ ST c 0 := by
    rw [row_eq (fun j => dutyTok ER (sendCell c (sl j)) (j / 2) false)]; exact Entails.of_eq rfl
  iintro ⟨H0, H1, H2, H3, H4⟩
  isplitl [H1]; · iapply (hb true); iexact H1
  isplitl [H0]; · iapply (hb false); iexact H0
  isplitl [H3]; · iapply hr; iexact H3
  isplitl [H2]; · iapply hs; iexact H2
  iapply hc; iexact H4

omit [FloatOps F] in
theorem sep_refl (P : sProp 𝕄) : P ⊢ P := BI.BIClass.entails_refl _

omit [FloatOps F] in
theorem toks_around : (bigSep Finset.univ fun c : Dev nD => (toks c : sProp 𝕄)) ⊢ bigSep Finset.univ fun c : Dev nD => payToks c := by
  refine (bigSep_mono fun c _ => toks_rows (F := F) c).trans ?_
  unfold payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => RV (F := F) c), bigSep_univ_equiv ring.symm (fun c : Dev nD => CV (F := F) c)]
  exact sep_refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd m ρ) κ (kcell (c, k))))
          ∗ (places c ∗ bigSep Finset.univ fun k : Fin 6 => reached ER (kcell (c, k)) 0) ∗ toks c) : sProp 𝕄)
      ⊢ bigSep Finset.univ (dealt m ρ) := by
  simp only [bigSep_sep']
  rw [← bigSep_univ_prod (fun ck : Dev nD × Fin 6 => iprop(∃ κ : ℕ, cellInv ER (Rd m ρ) κ (kcell ck))),
    ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (Rd m ρ) κ (kcell ck) : sProp 𝕄))) $$ HI
  icases HK with ⟨%K, #HI⟩
  ihave Htk := (toks_around (F := F)) $$ Htok
  iapply (with_persistent (R := iprop(invs m ρ K ∗ starts)) (Φ := fun c => iprop(places c ∗ payToks c)) fun c _ => show _ ⊢ dealt m ρ c from by
    unfold dealt
    iintro ⟨⟨#H1, #H2⟩, H3, H4⟩
    iexists K
    isplitr
    · isplitr; · iexact H1
      iexact H2
    isplitl [H3] <;> iassumption)
  isplitr
  · unfold invs starts; isplitr; · iexact HI
    iexact HR
  · rw [bigSep_sep']
    isplitl [Hat] <;> iassumption

omit [FloatOps F] in
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## What is promised -/

/-- What a device's own waits are worth. -/
def Tc (c : Dev nD) : CellTallies nD τ sig ℕ :=
  (∑ j ∈ Finset.Ico 0 31, tallyAt (recvCell c (sl (j + 1))) (3 * j + 3) N) + (∑ j ∈ Finset.Ico 0 30, tallyAt (credCell c) (3 * j + 4) 1)
    + tallyAt (barCell c) 1 2

theorem sum_dues : (∑ d, O₀ d) = ∑ d, Tc d := by
  have h1 : (∑ d : Dev nD, ∑ j ∈ Finset.Ico 0 31, dueR d j) = ∑ d : Dev nD, ∑ j ∈ Finset.Ico 0 31, tallyAt (recvCell d (sl (j + 1))) (3 * j + 3) N :=
    Equiv.sum_comp ring (fun d : Dev nD => (∑ j ∈ Finset.Ico 0 31, tallyAt (recvCell d (sl (j + 1))) (3 * j + 3) N : CellTallies nD τ sig ℕ))
  have h2 : (∑ d : Dev nD, ∑ j ∈ Finset.Ico 0 30, dueC d j) = ∑ d : Dev nD, ∑ j ∈ Finset.Ico 0 30, tallyAt (credCell d) (3 * j + 4) 1 :=
    Equiv.sum_comp ring.symm (fun d : Dev nD => (∑ j ∈ Finset.Ico 0 30, tallyAt (credCell d) (3 * j + 4) 1 : CellTallies nD τ sig ℕ))
  have h3 : (∑ d : Dev nD, tallyAt (barCell (nxt d)) 1 1) = ∑ d : Dev nD, (tallyAt (barCell d) 1 1 : CellTallies nD τ sig ℕ) :=
    Equiv.sum_comp ring (fun d : Dev nD => (tallyAt (barCell d) 1 1 : CellTallies nD τ sig ℕ))
  have h4 : (∑ d : Dev nD, tallyAt (barCell (prv d)) 1 1) = ∑ d : Dev nD, (tallyAt (barCell d) 1 1 : CellTallies nD τ sig ℕ) :=
    Equiv.sum_comp ring.symm (fun d : Dev nD => (tallyAt (barCell d) 1 1 : CellTallies nD τ sig ℕ))
  unfold O₀ O₁ due Tc
  simp only [Finset.sum_add_distrib]
  rw [h1, h2, h3, h4, add_assoc, ← Finset.sum_add_distrib (f := fun d : Dev nD => (tallyAt (barCell d) 1 1 : CellTallies nD τ sig ℕ))]
  exact congrArg _ (Finset.sum_congr rfl fun d _ => tallyAt_add _ _ _ _)

theorem Tc_own (d : Dev nD) (g : GSem nD τ sig) (h : Tc d g ≠ 0) : g.1 = (d.tc : Thread nD τ) := by
  obtain ⟨k, hk⟩ := Finsupp.ne_iff.mp h
  have hk' : 0 < Tc d g k := Nat.pos_of_ne_zero hk
  unfold Tc at hk'
  rw [Pi.add_apply, Finsupp.add_apply, Pi.add_apply, Finsupp.add_apply] at hk'
  rcases Nat.add_pos_iff_pos_or_pos.mp hk' with h | h
  · rcases Nat.add_pos_iff_pos_or_pos.mp h with h | h
    · obtain ⟨j, -, h⟩ := sum_pos _ _ g k h
      rw [(Pipeline.tallyAt_pos h).1]
    · obtain ⟨j, -, h⟩ := sum_pos _ _ g k h
      rw [(Pipeline.tallyAt_pos h).1]
  · rw [(Pipeline.tallyAt_pos h).1]

omit [FloatOps F] in
theorem cred_row (s : Finset ℕ) (f : ℕ → CellTallies nD τ sig ℕ) : (cred (∑ j ∈ s, f j) : sProp 𝕄) ⊢ bigSep s fun j => cred (f j) := by
  induction s using Finset.induction_on with
  | empty => rw [bigSep_empty]; iintro -; iempintro
  | insert a s ha ih =>
    rw [Finset.sum_insert ha]
    exact ((cred_add _ _).1.trans (sep_mono_right ih)).trans (by rw [bigSep_insert ha]; exact Entails.of_eq rfl)

omit [FloatOps F] in
theorem promise (c : Dev nD) : (Pipeline.launchCred O₀ c : sProp 𝕄) ⊢ promised c := by
  rw [Pipeline.launchCred_of_sum O₀ Tc sum_dues Tc_own c]
  unfold Tc promised RC CC
  iintro H
  ihave H' := (cred_add _ _).1 $$ H
  icases H' with ⟨H, Hb⟩
  ihave H' := (cred_add _ _).1 $$ H
  icases H' with ⟨Hr, Hc⟩
  isplitl [Hb]; · iexact Hb
  isplitl [Hr]; · iapply (cred_row (F := F) _ _); iexact Hr
  iapply (cred_row (F := F) _ _); iexact Hc

/-! ## The region's conditions -/

omit [FloatOps F] in
theorem start_levs (c : Dev nD) :
    iprop(Pipeline.unscopedRestP Pipeline.Prefetch.none cfg0.spec c (fun b => m ((c : Thread nD τ).loc b)) ∗ levs
        ∗ Pipeline.launchCred O₀ c ∗ prngReg c (ρ c) ∗ dealt m ρ c)
      ⊢ |={Set.univ}=> iprop(start m ρ c ∗ emp) := by
  iintro ⟨-, #Hlev, Hcr, -, HG⟩
  ihave Hc := (promise (F := F) c) $$ Hcr
  imodintro
  unfold start
  isplitl
  · isplitl [HG]; · iexact HG
    isplitl [Hc]; · iexact Hc
    iexact Hlev
  · iempintro

omit [FloatOps F] in
theorem start_intro (c : Dev nD) :
    iprop(Pipeline.unscopedRestP Pipeline.Prefetch.none cfg0.spec c (fun b => m ((c : Thread nD τ).loc b)) ∗ levAts Lv SiteBlocks.lv
        ∗ Pipeline.launchCred O₀ c ∗ prngReg c (ρ c) ∗ dealt m ρ c)
      ⊢ |={Set.univ}=> iprop(start m ρ c ∗ emp) :=
  (sep_mono_right (sep_mono_left (levs_intro (F := F)))).trans (start_levs m ρ c)

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hb, Hz⟩
  isplitl [Hb]; · iexact Hb
  isplitl [Hz] <;> iassumption

omit [FloatOps F] in
theorem mayWait_none (c : Dev nD) (sm : SemLoc sig) : (levAts Lv SiteBlocks.lv : sProp 𝕄) ⊢ MayWait (c : Thread nD τ) sm 0 0 := by
  rw [MayWait_zero]; exact BI.affine

theorem waits (c : Dev nD) : (levAts Lv SiteBlocks.lv : sProp 𝕄) ⊢ Pipeline.cellsWaits cfgs (dats m ρ) 0 0 c :=
  Pipeline.cellsWaits_intro cfgs (dats m ρ) 0 0 c fun w s t => by
    rcases t with ⟨_ | _, ht⟩
    · exact mayWait_start c _
    · exact mayWait_none c _

/-! ## The run -/

/-- What the arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every weakly fair execution of the mesh ends, with the arrays at their computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lv) (lv := SiteBlocks.lv) (hL := SiteBlocks.hL 128) (hwaits := waits m ρ)
    (G := G m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingGemm

end
-- ==== Proof.Value.lean ====
/-
# What the run computes

The arrays at the end of the run, and at exact arithmetic the computed array as a column block of the whole product.
-/
module

public import proofs.«01_k».proof.Defs
public import proofs.«01_k».proof.Proof.Launch
public import proofs.«01_k».proof.Proof.Gen.ReferenceIdeal
public import proofs.«01_k».proof.Proof.Gen.ReferenceIdeal.Run
public import Idealize.ShloMosaic.Lib.Pointwise

@[expose] public section

noncomputable section

namespace Cert.RingGemm

open Cert.KernelIdeal Cert.KernelIdeal.Gen

open Idealize.ShloMosaic
open Idealize.ShloMosaic.TcCoe
open Idealize.SL Idealize.SL.RA Idealize.SL.BI
open Idealize.SL.Sem
open Idealize.ShloMosaic.Pipeline (Dat Cfg Window)

section
variable {F : FTy → Type} [FloatOps F]
variable (m : (ℓ : Loc nD τ sig) → Buf (Elt F) ℓ) (ρ : Dev nD → PrngReg)

/-- The operands end as they began. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- Each window's one block is its whole array. -/
theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_w (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_o (f : main_v1.ty.Contents (Elt F)) : (win0_2.blk (0 : Fin 1)).view.read (Elt F) f = f :=
  Memref.read_access_unit_zero (Elt F) main_v1 (funext fun a => by fin_cases a <;> decide) (fun a => by fin_cases a <;> decide) f

theorem xstg_eq (c : Dev nD) : xstg m ρ c = m ((c : Thread nD τ).loc main_arg0) := read_x _
theorem wstg_eq (c : Dev nD) : wstg m ρ c = m ((c : Thread nD τ).loc main_arg1) := read_w _

/-- The output ends as the body left it. -/
theorem finalA_o (c : Dev nD) : finalA m ρ c (2 : Fin 3) = outAt m ρ c := by
  refine (read_o _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- The run, read at the three arrays. -/
theorem run_arrays : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono
    (fun _ h => ⟨fun c => ⟨(h.1 c (2 : Fin 3)).trans (finalA_o m ρ c), (h.1 c (0 : Fin 3)).trans (finalA_x m ρ c), (h.1 c (1 : Fin 3)).trans (finalA_w m ρ c)⟩, h.2⟩)
    (run_main m ρ)
end

/-! ## Exact arithmetic -/

/-- One entry of a block's product: the sum over the shared axis. -/
theorem prod_apply (X : Vec Ideal S128x4096 .f32) (W : Vec Ideal S4096x64 .f32) (i : S128x64.Idx) :
    prod X W i = ∑ k : Fin 4096, (X (ix2 (i 0) k) * W (ix2 k (i 1)) : EReal) := by
  unfold prod
  pointwise

/-- One entry of the whole product. -/
theorem whole_apply (X : Vec Ideal Cert.ReferenceIdeal.S4096x4096 .f32) (W : Vec Ideal Cert.ReferenceIdeal.S4096x2048 .f32) (i : Cert.ReferenceIdeal.S4096x2048.Idx) :
    (Host.dotGeneral (F := Ideal) (φ₁ := .f32) (φ₂ := .f32) Cert.ReferenceIdeal.dot_S4096x4096_S4096x2048_S4096x2048_1_0_0_1_n_n none X W : Vec Ideal Cert.ReferenceIdeal.S4096x2048 .f32) i
      = ∑ k : Fin 4096, (X (ix2 (i 0) k) * W (ix2 k (i 1)) : EReal) := by
  pointwise

section
variable (m : (ℓ : Loc nD τ sig) → Buf (Elt Ideal) ℓ) (ρ : Dev nD → PrngReg)

/-- The computed array is the device's column block of the whole product. -/
theorem out_block (X : Vec Ideal Cert.ReferenceIdeal.S4096x4096 .f32) (W : Vec Ideal Cert.ReferenceIdeal.S4096x2048 .f32)
    (hX : ∀ d : Dev nD, m ((d : Thread nD τ).loc main_arg0) = Layout.block ⟨2, ![128, 4096]⟩ ⟨2, ![4096, 4096]⟩ 0 32 d X)
    (hW : ∀ d : Dev nD, m ((d : Thread nD τ).loc main_arg1) = Layout.block ⟨2, ![4096, 64]⟩ ⟨2, ![4096, 2048]⟩ 1 32 d W) (c : Dev nD) :
    outAt m ρ c = Layout.block ⟨2, ![4096, 64]⟩ ⟨2, ![4096, 2048]⟩ 1 32 c
      (Host.dotGeneral (F := Ideal) (φ₁ := .f32) (φ₂ := .f32) Cert.ReferenceIdeal.dot_S4096x4096_S4096x2048_S4096x2048_1_0_0_1_n_n none X W : Vec Ideal Cert.ReferenceIdeal.S4096x2048 .f32) := by
  funext (i : S4096x64.Idx)
  rw [Layout.block_apply, whole_apply]
  unfold outAt
  rw [prod_apply]
  refine Finset.sum_congr (M := EReal) rfl fun k _ => congrArg₂ (fun a b : EReal => a * b) ?_ ?_
  · rw [xstg_eq, hX]
    refine congrArg X (funext fun a => Fin.ext ?_)
    fin_cases a
    · exact (Nat.div_add_mod' (i 0).val 128)
    · rfl
  · rw [wstg_eq, hW]
    refine congrArg W (funext fun a => Fin.ext ?_)
    fin_cases a <;> rfl
end

end Cert.RingGemm

end
-- ==== Proof.Twin.lean ====
/-
# The printed kernel

The printed kernel has the text of the one read at exact arithmetic, so the run at bit patterns is its run.
-/
module

public import proofs.«01_k».proof.Proof.Value
public import proofs.«01_k».proof.Proof.Gen.Kernel
public import proofs.«01_k».proof.Proof.Gen.Kernel.Skeleton

@[expose] public section

noncomputable section

namespace Cert.RingGemm

open Idealize.ShloMosaic Idealize.SL.Sem

set_option maxRecDepth 65536

theorem body_same : Cert.Kernel.cc0_body (F := Bits) = Cert.KernelIdeal.cc0_body (F := Bits) := rfl

theorem table_same : Cert.Kernel.defs₀ (F := Bits) = Cert.KernelIdeal.defs₀ := by
  unfold Cert.Kernel.defs₀ Cert.KernelIdeal.defs₀
  refine congrArg Defs.onTc (funext fun l => ?_)
  match l with
  | 0 =>
    funext x
    exact congrFun (congrFun (congrFun (congrFun (congrFun (congrFun (congrFun (congrFun (congrFun (congrFun (congrFun body_same _) _) _) _) _) _) _) _) _) _) _

theorem defs_same : Cert.Kernel.defs (F := Bits) = Cert.KernelIdeal.defs := congrArg (Pipeline.defs Cert.KernelIdeal.pcfgs) table_same

theorem run_same {d d' : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm)} (h : d = d') {p s Q}
    (hr : θ_run d' p s Q) : θ_run d p s Q := h ▸ hr

/-- The printed kernel ends with its operands as they began and every semaphore at zero. -/
theorem frame_kernel : Cert.quiescent_Kernel := fun m ρ _ =>
  run_same defs_same ((θ_run Cert.KernelIdeal.defs _ _).mono (fun _ h => And.intro (fun c => (h.1 c).2) h.2) (run_arrays (F := Bits) m ρ))

end Cert.RingGemm

end
-- ==== Proof.lean ====
/- The certificate: what Defs.lean states of the ring all-gather product, from its run and its value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (RingGemm.run_arrays (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its column block of the product of the whole arrays. -/
theorem value : Cert.algebraic_KernelIdeal_ReferenceIdeal := by
  intro m ρ m' ρ' _ hag
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨(h.1 c).1.trans (RingGemm.out_block m ρ _ _ (fun d => (hag d).1) (fun d => (hag d).2) c), (h.1 c).2⟩)
    (RingGemm.run_arrays (F := Ideal) m ρ)

theorem claim : Cert.Claim :=
  ⟨Cert.Kernel.Gen.facts, Cert.KernelIdeal.Gen.facts, Cert.ReferenceIdeal.Gen.facts, RingGemm.frame_kernel, frame_ideal, frame_reference, trivial, value⟩

end Cert.Proof

end
